-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 2048]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 256]⟩ ⟨2, ![4, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x256 : Shape := ⟨3, ![4, 512, 256]⟩
abbrev S4x256 : Shape := ⟨2, ![4, 256]⟩
abbrev S256x256 : Shape := ⟨2, ![256, 256]⟩
abbrev S8x256x256 : Shape := ⟨3, ![8, 256, 256]⟩
abbrev S8 : Shape := ⟨1, ![8]⟩
abbrev S_ : Shape := ⟨0, ![]⟩
abbrev S1x256 : Shape := ⟨2, ![1, 256]⟩
abbrev S256 : Shape := ⟨1, ![256]⟩
abbrev S1x1x256 : Shape := ⟨3, ![1, 1, 256]⟩
abbrev S4x3x256 : Shape := ⟨3, ![4, 3, 256]⟩
abbrev S4x509x256 : Shape := ⟨3, ![4, 509, 256]⟩
abbrev S4x2x256 : Shape := ⟨3, ![4, 2, 256]⟩
abbrev S4x510x256 : Shape := ⟨3, ![4, 510, 256]⟩
abbrev S4x1x256 : Shape := ⟨3, ![4, 1, 256]⟩
abbrev S4x511x256 : Shape := ⟨3, ![4, 511, 256]⟩
abbrev S2048x256 : Shape := ⟨2, ![2048, 256]⟩
abbrev S1x256x256 : Shape := ⟨3, ![1, 256, 256]⟩
abbrev S1 : Shape := ⟨1, ![1]⟩

abbrev nBuf : Space → Nat
  | .hbm => 4
  | .vmem => 9
  | .smem => 0
  | _ => 0

abbrev bufTy : (tb : Table) → Fin (tcTables nBuf tb) → BufTy
  | .hbm, ⟨0, _⟩ => ⟨S4x512x256, .bf16⟩
  | .hbm, ⟨1, _⟩ => ⟨S4x256, .bf16⟩
  | .hbm, ⟨2, _⟩ => ⟨S256x256, .bf16⟩
  | .hbm, ⟨3, _⟩ => ⟨S4x512x256, .f32⟩
  | .local _ .vmem, ⟨0, _⟩ => ⟨S4x512x256, .bf16⟩
  | .local _ .vmem, ⟨1, _⟩ => ⟨S4x256, .bf16⟩
  | .local _ .vmem, ⟨2, _⟩ => ⟨S256x256, .bf16⟩
  | .local _ .vmem, ⟨3, _⟩ => ⟨S4x512x256, .f32⟩
  | .local _ .vmem, ⟨4, _⟩ => ⟨S8x256x256, .bf16⟩
  | .local _ .vmem, ⟨5, _⟩ => ⟨S256x256, .f32⟩
  | .local _ .vmem, ⟨6, _⟩ => ⟨S256x256, .bf16⟩
  | .local _ .vmem, ⟨7, _⟩ => ⟨S8x256x256, .bf16⟩
  | .local _ .vmem, ⟨8, _⟩ => ⟨S8x256x256, .bf16⟩
  | _, _ => ⟨S4x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_41 : BitVec 32 := 0#32
  let v79 : BitVec 1 := Scalar.cmpi .ne v2 c0_i32_41
  let v80 : BitVec 32 := Scalar.extui v79
  let c0_i32_42 : BitVec 32 := 0#32
  let v81 : BitVec 1 := Scalar.cmpi .ne v80 c0_i32_42
  v81

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_189 : BitVec 32 := 0#32
  let c0_i32_190 : BitVec 32 := 0#32
  ![v2.toNat, 0, 0]
def k0_dev8 : Nat :=
  let c0_i32_188 : BitVec 32 := 0#32
  let c0_i32_186 : BitVec 32 := 0#32
  let c1_i32_187 : BitVec 32 := 1#32
  let v300 : BitVec 32 := Scalar.muli c0_i32_186 c1_i32_187
  let v301 : BitVec 32 := Scalar.addi c0_i32_188 v300
  v301.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_48 : BitVec 32 := 1#32
  let v91 : BitVec 1 := Scalar.cmpi .ne v2 c1_i32_48
  let v92 : BitVec 32 := Scalar.extui v91
  let c0_i32_49 : BitVec 32 := 0#32
  let v93 : BitVec 1 := Scalar.cmpi .ne v92 c0_i32_49
  v93

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_189 : BitVec 32 := 0#32
  let c0_i32_190 : BitVec 32 := 0#32
  ![v2.toNat, 0, 0]
def k0_dev9 : Nat :=
  let c0_i32_188 : BitVec 32 := 0#32
  let c1_i32_186 : BitVec 32 := 1#32
  let c1_i32_187 : BitVec 32 := 1#32
  let v300 : BitVec 32 := Scalar.muli c1_i32_186 c1_i32_187
  let v301 : BitVec 32 := Scalar.addi c0_i32_188 v300
  v301.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_55 : BitVec 32 := 2#32
  let v103 : BitVec 1 := Scalar.cmpi .ne v2 c2_i32_55
  let v104 : BitVec 32 := Scalar.extui v103
  let c0_i32_56 : BitVec 32 := 0#32
  let v105 : BitVec 1 := Scalar.cmpi .ne v104 c0_i32_56
  v105

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_189 : BitVec 32 := 0#32
  let c0_i32_190 : BitVec 32 := 0#32
  ![v2.toNat, 0, 0]
def k0_dev10 : Nat :=
  let c0_i32_188 : BitVec 32 := 0#32
  let c2_i32_186 : BitVec 32 := 2#32
  let c1_i32_187 : BitVec 32 := 1#32
  let v300 : BitVec 32 := Scalar.muli c2_i32_186 c1_i32_187
  let v301 : BitVec 32 := Scalar.addi c0_i32_188 v300
  v301.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_62 : BitVec 32 := 3#32
  let v115 : BitVec 1 := Scalar.cmpi .ne v2 c3_i32_62
  let v116 : BitVec 32 := Scalar.extui v115
  let c0_i32_63 : BitVec 32 := 0#32
  let v117 : BitVec 1 := Scalar.cmpi .ne v116 c0_i32_63
  v117

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_189 : BitVec 32 := 0#32
  let c0_i32_190 : BitVec 32 := 0#32
  ![v2.toNat, 0, 0]
def k0_dev11 : Nat :=
  let c0_i32_188 : BitVec 32 := 0#32
  let c3_i32_186 : BitVec 32 := 3#32
  let c1_i32_187 : BitVec 32 := 1#32
  let v300 : BitVec 32 := Scalar.muli c3_i32_186 c1_i32_187
  let v301 : BitVec 32 := Scalar.addi c0_i32_188 v300
  v301.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_69 : BitVec 32 := 4#32
  let v127 : BitVec 1 := Scalar.cmpi .ne v2 c4_i32_69
  let v128 : BitVec 32 := Scalar.extui v127
  let c0_i32_70 : BitVec 32 := 0#32
  let v129 : BitVec 1 := Scalar.cmpi .ne v128 c0_i32_70
  v129

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_189 : BitVec 32 := 0#32
  let c0_i32_190 : BitVec 32 := 0#32
  ![v2.toNat, 0, 0]
def k0_dev12 : Nat :=
  let c0_i32_188 : BitVec 32 := 0#32
  let c4_i32_186 : BitVec 32 := 4#32
  let c1_i32_187 : BitVec 32 := 1#32
  let v300 : BitVec 32 := Scalar.muli c4_i32_186 c1_i32_187
  let v301 : BitVec 32 := Scalar.addi c0_i32_188 v300
  v301.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_76 : BitVec 32 := 5#32
  let v139 : BitVec 1 := Scalar.cmpi .ne v2 c5_i32_76
  let v140 : BitVec 32 := Scalar.extui v139
  let c0_i32_77 : BitVec 32 := 0#32
  let v141 : BitVec 1 := Scalar.cmpi .ne v140 c0_i32_77
  v141

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_189 : BitVec 32 := 0#32
  let c0_i32_190 : BitVec 32 := 0#32
  ![v2.toNat, 0, 0]
def k0_dev13 : Nat :=
  let c0_i32_188 : BitVec 32 := 0#32
  let c5_i32_186 : BitVec 32 := 5#32
  let c1_i32_187 : BitVec 32 := 1#32
  let v300 : BitVec 32 := Scalar.muli c5_i32_186 c1_i32_187
  let v301 : BitVec 32 := Scalar.addi c0_i32_188 v300
  v301.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_83 : BitVec 32 := 6#32
  let v151 : BitVec 1 := Scalar.cmpi .ne v2 c6_i32_83
  let v152 : BitVec 32 := Scalar.extui v151
  let c0_i32_84 : BitVec 32 := 0#32
  let v153 : BitVec 1 := Scalar.cmpi .ne v152 c0_i32_84
  v153

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_189 : BitVec 32 := 0#32
  let c0_i32_190 : BitVec 32 := 0#32
  ![v2.toNat, 0, 0]
def k0_dev14 : Nat :=
  let c0_i32_188 : BitVec 32 := 0#32
  let c6_i32_186 : BitVec 32 := 6#32
  let c1_i32_187 : BitVec 32 := 1#32
  let v300 : BitVec 32 := Scalar.muli c6_i32_186 c1_i32_187
  let v301 : BitVec 32 := Scalar.addi c0_i32_188 v300
  v301.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_90 : BitVec 32 := 7#32
  let v163 : BitVec 1 := Scalar.cmpi .ne v2 c7_i32_90
  let v164 : BitVec 32 := Scalar.extui v163
  let c0_i32_91 : BitVec 32 := 0#32
  let v165 : BitVec 1 := Scalar.cmpi .ne v164 c0_i32_91
  v165

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_189 : BitVec 32 := 0#32
  let c0_i32_190 : BitVec 32 := 0#32
  ![v2.toNat, 0, 0]
def k0_dev15 : Nat :=
  let c0_i32_188 : BitVec 32 := 0#32
  let c7_i32_186 : BitVec 32 := 7#32
  let c1_i32_187 : BitVec 32 := 1#32
  let v300 : BitVec 32 := Scalar.muli c7_i32_186 c1_i32_187
  let v301 : BitVec 32 := Scalar.addi c0_i32_188 v300
  v301.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_120 : BitVec 32 := 0#32
  let v204 : BitVec 1 := Scalar.cmpi .ne v2 c0_i32_120
  let v205 : BitVec 32 := Scalar.extui v204
  let c0_i32_121 : BitVec 32 := 0#32
  let v206 : BitVec 1 := Scalar.cmpi .ne v205 c0_i32_121
  v206

def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_188 : BitVec 32 := 0#32
  let c0_i32_189 : BitVec 32 := 0#32
  ![v2.toNat, 0, 0]
def k0_dev16 : Nat :=
  let c0_i32_187 : BitVec 32 := 0#32
  let c0_i32_185 : BitVec 32 := 0#32
  let c1_i32_186 : BitVec 32 := 1#32
  let v300 : BitVec 32 := Scalar.muli c0_i32_185 c1_i32_186
  let v301 : BitVec 32 := Scalar.addi c0_i32_187 v300
  v301.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_122 : BitVec 32 := 1#32
  let v207 : BitVec 1 := Scalar.cmpi .ne v2 c1_i32_122
  let v208 : BitVec 32 := Scalar.extui v207
  let c0_i32_123 : BitVec 32 := 0#32
  let v209 : BitVec 1 := Scalar.cmpi .ne v208 c0_i32_123
  v209

def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_188 : BitVec 32 := 0#32
  let c0_i32_189 : BitVec 32 := 0#32
  ![v2.toNat, 0, 0]
def k0_dev17 : Nat :=
  let c0_i32_187 : BitVec 32 := 0#32
  let c1_i32_185 : BitVec 32 := 1#32
  let c1_i32_186 : BitVec 32 := 1#32
  let v300 : BitVec 32 := Scalar.muli c1_i32_185 c1_i32_186
  let v301 : BitVec 32 := Scalar.addi c0_i32_187 v300
  v301.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_124 : BitVec 32 := 2#32
  let v210 : BitVec 1 := Scalar.cmpi .ne v2 c2_i32_124
  let v211 : BitVec 32 := Scalar.extui v210
  let c0_i32_125 : BitVec 32 := 0#32
  let v212 : BitVec 1 := Scalar.cmpi .ne v211 c0_i32_125
  v212

def k0_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_188 : BitVec 32 := 0#32
  let c0_i32_189 : BitVec 32 := 0#32
  ![v2.toNat, 0, 0]
def k0_dev18 : Nat :=
  let c0_i32_187 : BitVec 32 := 0#32
  let c2_i32_185 : BitVec 32 := 2#32
  let c1_i32_186 : BitVec 32 := 1#32
  let v300 : BitVec 32 := Scalar.muli c2_i32_185 c1_i32_186
  let v301 : BitVec 32 := Scalar.addi c0_i32_187 v300
  v301.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_126 : BitVec 32 := 3#32
  let v213 : BitVec 1 := Scalar.cmpi .ne v2 c3_i32_126
  let v214 : BitVec 32 := Scalar.extui v213
  let c0_i32_127 : BitVec 32 := 0#32
  let v215 : BitVec 1 := Scalar.cmpi .ne v214 c0_i32_127
  v215

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_188 : BitVec 32 := 0#32
  let c0_i32_189 : BitVec 32 := 0#32
  ![v2.toNat, 0, 0]
def k0_dev19 : Nat :=
  let c0_i32_187 : BitVec 32 := 0#32
  let c3_i32_185 : BitVec 32 := 3#32
  let c1_i32_186 : BitVec 32 := 1#32
  let v300 : BitVec 32 := Scalar.muli c3_i32_185 c1_i32_186
  let v301 : BitVec 32 := Scalar.addi c0_i32_187 v300
  v301.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_128 : BitVec 32 := 4#32
  let v216 : BitVec 1 := Scalar.cmpi .ne v2 c4_i32_128
  let v217 : BitVec 32 := Scalar.extui v216
  let c0_i32_129 : BitVec 32 := 0#32
  let v218 : BitVec 1 := Scalar.cmpi .ne v217 c0_i32_129
  v218

def k0_off25 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_188 : BitVec 32 := 0#32
  let c0_i32_189 : BitVec 32 := 0#32
  ![v2.toNat, 0, 0]
def k0_dev20 : Nat :=
  let c0_i32_187 : BitVec 32 := 0#32
  let c4_i32_185 : BitVec 32 := 4#32
  let c1_i32_186 : BitVec 32 := 1#32
  let v300 : BitVec 32 := Scalar.muli c4_i32_185 c1_i32_186
  let v301 : BitVec 32 := Scalar.addi c0_i32_187 v300
  v301.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_130 : BitVec 32 := 5#32
  let v219 : BitVec 1 := Scalar.cmpi .ne v2 c5_i32_130
  let v220 : BitVec 32 := Scalar.extui v219
  let c0_i32_131 : BitVec 32 := 0#32
  let v221 : BitVec 1 := Scalar.cmpi .ne v220 c0_i32_131
  v221

def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_188 : BitVec 32 := 0#32
  let c0_i32_189 : BitVec 32 := 0#32
  ![v2.toNat, 0, 0]
def k0_dev21 : Nat :=
  let c0_i32_187 : BitVec 32 := 0#32
  let c5_i32_185 : BitVec 32 := 5#32
  let c1_i32_186 : BitVec 32 := 1#32
  let v300 : BitVec 32 := Scalar.muli c5_i32_185 c1_i32_186
  let v301 : BitVec 32 := Scalar.addi c0_i32_187 v300
  v301.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_132 : BitVec 32 := 6#32
  let v222 : BitVec 1 := Scalar.cmpi .ne v2 c6_i32_132
  let v223 : BitVec 32 := Scalar.extui v222
  let c0_i32_133 : BitVec 32 := 0#32
  let v224 : BitVec 1 := Scalar.cmpi .ne v223 c0_i32_133
  v224

def k0_off29 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_188 : BitVec 32 := 0#32
  let c0_i32_189 : BitVec 32 := 0#32
  ![v2.toNat, 0, 0]
def k0_dev22 : Nat :=
  let c0_i32_187 : BitVec 32 := 0#32
  let c6_i32_185 : BitVec 32 := 6#32
  let c1_i32_186 : BitVec 32 := 1#32
  let v300 : BitVec 32 := Scalar.muli c6_i32_185 c1_i32_186
  let v301 : BitVec 32 := Scalar.addi c0_i32_187 v300
  v301.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_134 : BitVec 32 := 7#32
  let v225 : BitVec 1 := Scalar.cmpi .ne v2 c7_i32_134
  let v226 : BitVec 32 := Scalar.extui v225
  let c0_i32_135 : BitVec 32 := 0#32
  let v227 : BitVec 1 := Scalar.cmpi .ne v226 c0_i32_135
  v227

def k0_off31 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_188 : BitVec 32 := 0#32
  let c0_i32_189 : BitVec 32 := 0#32
  ![v2.toNat, 0, 0]
def k0_dev23 : Nat :=
  let c0_i32_187 : BitVec 32 := 0#32
  let c7_i32_185 : BitVec 32 := 7#32
  let c1_i32_186 : BitVec 32 := 1#32
  let v300 : BitVec 32 := Scalar.muli c7_i32_185 c1_i32_186
  let v301 : BitVec 32 := Scalar.addi c0_i32_187 v300
  v301.toNat
abbrev stage0_0 : Fin 1 → Memref sig .tc .vmem S4x512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x512x2048 : Shape := ⟨3, ![4, 512, 2048]⟩
abbrev S4x2048 : Shape := ⟨2, ![4, 2048]⟩
abbrev S2048x256 : Shape := ⟨2, ![2048, 256]⟩
abbrev S_ : Shape := ⟨0, ![]⟩
abbrev S4x3x2048 : Shape := ⟨3, ![4, 3, 2048]⟩
abbrev S4x515x2048 : Shape := ⟨3, ![4, 515, 2048]⟩
abbrev S1x2048 : Shape := ⟨2, ![1, 2048]⟩
abbrev S2048 : Shape := ⟨1, ![2048]⟩
abbrev S1x1x2048 : Shape := ⟨3, ![1, 1, 2048]⟩
abbrev S4x512x256 : Shape := ⟨3, ![4, 512, 256]⟩

abbrev nBuf : Space → Nat
  | .hbm => 46
  | .vmem => 0
  | .smem => 0
  | _ => 0

abbrev bufTy : (tb : Table) → Fin (tcTables nBuf tb) → BufTy
  | .hbm, ⟨0, _⟩ => ⟨S4x512x2048, .bf16⟩
  | .hbm, ⟨1, _⟩ => ⟨S4x2048, .bf16⟩
  | .hbm, ⟨2, _⟩ => ⟨S2048x256, .bf16⟩
  | .hbm, ⟨3, _⟩ => ⟨S4x512x2048, .f32⟩
  | .hbm, ⟨4, _⟩ => ⟨S4x2048, .f32⟩
  | .hbm, ⟨5, _⟩ => ⟨S2048x256, .f32⟩
  | .hbm, ⟨6, _⟩ => ⟨S_, .f32⟩
  | .hbm, ⟨7, _⟩ => ⟨S4x3x2048, .f32⟩
  | .hbm, ⟨8, _⟩ => ⟨S4x515x2048, .f32⟩
  | .hbm, ⟨9, _⟩ => ⟨S_, .f32⟩
  | .hbm, ⟨10, _⟩ => ⟨S4x512x2048, .f32⟩
  | .hbm, ⟨11, _⟩ => ⟨S4x512x2048, .f32⟩
  | .hbm, ⟨12, _⟩ => ⟨S1x2048, .f32⟩
  | .hbm, ⟨13, _⟩ => ⟨S2048, .f32⟩
  | .hbm, ⟨14, _⟩ => ⟨S1x1x2048, .f32⟩
  | .hbm, ⟨15, _⟩ => ⟨S4x512x2048, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S1x2048, .f32⟩
  | .hbm, ⟨20, _⟩ => ⟨S2048, .f32⟩
  | .hbm, ⟨21, _⟩ => ⟨S1x1x2048, .f32⟩
  | .hbm, ⟨22, _⟩ => ⟨S4x512x2048, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S1x2048, .f32⟩
  | .hbm, ⟨27, _⟩ => ⟨S2048, .f32⟩
  | .hbm, ⟨28, _⟩ => ⟨S1x1x2048, .f32⟩
  | .hbm, ⟨29, _⟩ => ⟨S4x512x2048, .f32⟩
  | .hbm, ⟨30, _⟩ => ⟨S4x512x2048, .f32⟩
  | .hbm, ⟨31, _⟩ => ⟨S4x512x2048, .f32⟩
  | .hbm, ⟨32, _⟩ => ⟨S4x512x2048, .f32⟩
  | .hbm, ⟨33, _⟩ => ⟨S1x2048, .f32⟩
  | .hbm, ⟨34, _⟩ => ⟨S2048, .f32⟩
  | .hbm, ⟨35, _⟩ => ⟨S1x1x2048, .f32⟩
  | .hbm, ⟨36, _⟩ => ⟨S4x512x2048, .f32⟩
  | .hbm, ⟨37, _⟩ => ⟨S4x512x2048, .f32⟩
  | .hbm, ⟨38, _⟩ => ⟨S4x512x2048, .f32⟩
  | .hbm, ⟨39, _⟩ => ⟨S4x512x2048, .f32⟩
  | .hbm, ⟨40, _⟩ => ⟨S4x512x2048, .f32⟩
  | .hbm, ⟨41, _⟩ => ⟨S_, .f32⟩
  | .hbm, ⟨42, _⟩ => ⟨S4x512x2048, .f32⟩
  | .hbm, ⟨43, _⟩ => ⟨S4x512x2048, .f32⟩
  | .hbm, ⟨44, _⟩ => ⟨S4x512x2048, .f32⟩
  | .hbm, ⟨45, _⟩ => ⟨S4x512x256, .f32⟩
  | _, _ => ⟨S4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== Proof.KernelIdealRun.Cells.lean ====
/-
# The kernel's buffers, semaphore cells and contents

Each device holds a buffer of eight blocks of partial products, receives one block from every other device, adds the
eight, and sends the sum to every other device. This module names the buffers, the blocks of a buffer (one slot per
device), the semaphore cells, and what each slot holds after each step.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.ViewIndex
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-! ## Resources: the pipeline library's rounds and this kernel's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Buffers -/

abbrev xM : Memref sig .tc .vmem S4x512x256 .bf16 := Memref.whole cc0_stg0_0
abbrev kM : Memref sig .tc .vmem S4x256 .bf16 := Memref.whole cc0_stg1_0
abbrev wM : Memref sig .tc .vmem S256x256 .bf16 := Memref.whole cc0_stg2_0
abbrev outM : Memref sig .tc .vmem S4x512x256 .f32 := Memref.whole cc0_stg3_0
abbrev partM : Memref sig .tc .vmem S8x256x256 .bf16 := Memref.whole cc0_scratch0
abbrev redM : Memref sig .tc .vmem S256x256 .f32 := Memref.whole cc0_scratch1
abbrev srcM : Memref sig .tc .vmem S256x256 .bf16 := Memref.whole cc0_scratch2
abbrev p1M : Memref sig .tc .vmem S8x256x256 .bf16 := Memref.whole cc0_scratch3
abbrev p2M : Memref sig .tc .vmem S8x256x256 .bf16 := Memref.whole cc0_scratch4

/-- Slot `k` of a buffer of eight blocks. -/
theorem slot_inb (k : Dev nD) : ∀ a, (![k.val, 0, 0] : Fin 3 → Nat) a + S1x256x256.size a ≤ S8x256x256.size a := by
  revert k; decide
abbrev slotRect (k : Dev nD) : Rect S8x256x256 := Rect.unit (s := S8x256x256) ![k.val, 0, 0] S1x256x256.size (slot_inb k)
abbrev slotM (M : Memref sig .tc .vmem S8x256x256 .bf16) (k : Dev nD) : Memref sig .tc .vmem S256x256 .bf16 :=
  (M.slice (slotRect k) (fun _ => rfl)).squeeze S256x256 squeezes_S1x256x256_S256x256

/-- Block `j` of the result: half of batch row `j / 2`. -/
theorem outBlk_inb (j : Dev nD) : ∀ a, (![j.val / 2, j.val % 2 * 256, 0] : Fin 3 → Nat) a + S1x256x256.size a ≤ S4x512x256.size a := by
  revert j; decide
abbrev outRect (j : Dev nD) : Rect S4x512x256 := Rect.unit (s := S4x512x256) ![j.val / 2, j.val % 2 * 256, 0] S1x256x256.size (outBlk_inb j)

/-! ## Semaphore cells -/

/-- The barrier semaphore. -/
abbrev barS : Sem sig := (SemArray.scalar (sig.barrier 0 rfl) : Sems sig S_).sem

/-- The four arrays of eight DMA semaphores: first exchange's sends (0) and receives (1), second exchange's sends (2)
    and receives (3); entry `k` of array `q`. -/
def dsem (q : Fin 4) (k : Dev nD) : DmaSem sig := ⟨4 + (8 * q.val + k.val), by
  have h1 := q.isLt; have h2 : k.val < 8 := k.isLt
  show 4 + (8 * q.val + k.val) < 36; omega⟩

/-- A device's cells: the barrier, and the entries of the four arrays. -/
abbrev CK : Type := Option (Fin 4 × Dev nD)

def csem : CK → SemLoc sig
  | none => .reg barS
  | some (q, k) => .dma (dsem q k)

/-- Which entry of the four arrays a DMA semaphore is, if any. -/
def kindDma (s : DmaSem sig) : Option CK :=
  if 4 ≤ s.val then
    some (some (⟨(s.val - 4) / 8 % 4, Nat.mod_lt _ (by decide)⟩, ⟨(s.val - 4) % 8, Nat.mod_lt _ (by decide)⟩)) else none

/-- Which of the device's cells a semaphore is, if any. -/
def kind : SemLoc sig → Option CK
  | .reg s => if s = barS then some none else none
  | .dma s => kindDma s

theorem kindDma_dsem (q : Fin 4) (k : Dev nD) : kindDma (dsem q k) = some (some (q, k)) := by
  have h1 := q.isLt
  have h2 : k.val < 8 := k.isLt
  have e1 : ((dsem q k).val - 4) / 8 % 4 = q.val := by unfold dsem; show (4 + (8 * q.val + k.val) - 4) / 8 % 4 = q.val; omega
  have e2 : ((dsem q k).val - 4) % 8 = k.val := by unfold dsem; show (4 + (8 * q.val + k.val) - 4) % 8 = k.val; omega
  unfold kindDma
  rw [if_pos (show 4 ≤ (dsem q k).val from Nat.le_add_right _ _)]
  exact congrArg some (congrArg some (Prod.ext (Fin.ext e1) (Fin.ext e2)))

theorem kind_csem (a : CK) : kind (csem a) = some a := by
  cases a with
  | none => show (if barS = barS then some none else none) = some none; exact if_pos rfl
  | some p => exact kindDma_dsem p.1 p.2

theorem csem_injective : Function.Injective csem := fun a b h =>
  Option.some.inj ((kind_csem a).symm.trans ((congrArg kind h).trans (kind_csem b)))

abbrev cell (c : Dev nD) (a : CK) : GSem nD τ sig := ((c : Thread nD τ), csem a)
abbrev barCell (c : Dev nD) : GSem nD τ sig := ((c : Thread nD τ), .reg barS)
abbrev dCell (q : Fin 4) (c k : Dev nD) : GSem nD τ sig := ((c : Thread nD τ), .dma (dsem q k))

theorem cell_injective : Function.Injective (fun ca : Dev nD × CK => cell ca.1 ca.2) := by
  rintro ⟨c, a⟩ ⟨c', a'⟩ h
  have h1 : c = c' := congrArg (fun g : GSem nD τ sig => g.1.1) h
  have h2 : a = a' := csem_injective (congrArg Prod.snd h)
  rw [h1, h2]

theorem cell_eq_iff {c c' : Dev nD} {a a' : CK} : cell c a = cell c' a' ↔ c = c' ∧ a = a' :=
  ⟨fun h => by
    have := cell_injective (a₁ := (c, a)) (a₂ := (c', a')) h
    exact ⟨congrArg Prod.fst this, congrArg Prod.snd this⟩, fun h => by rw [h.1, h.2]⟩

/-- A transfer's credit: one block of 256 by 256. -/
abbrev N : ℕ := (srcM).view.dmaCredit
theorem N_pos : 0 < N := View.dmaCredit_pos _ (by decide)

theorem slot_credit_part (k : Dev nD) : (slotM partM k).view.dmaCredit = N := rfl
theorem slot_credit_p1 (k : Dev nD) : (slotM p1M k).view.dmaCredit = N := rfl
theorem slot_credit_p2 (k : Dev nD) : (slotM p2M k).view.dmaCredit = N := rfl

/-- Device `c` counted on by `r`. -/
def rot (c : Dev nD) (r : ℕ) : Dev nD := ⟨(c.val + r) % 8, Nat.mod_lt _ (by decide)⟩

/-! ## Contents -/

/-- The device's blocks of the three arguments. -/
def xF (c : Dev nD) : Vec F S4x512x256 .bf16 := (win0_0.blk (0 : Fin 1)).view.read (Elt F) ((s₀ m ρ).mem ((c : Thread nD τ).loc main_arg0))
def kF (c : Dev nD) : Vec F S4x256 .bf16 := (win0_1.blk (0 : Fin 1)).view.read (Elt F) ((s₀ m ρ).mem ((c : Thread nD τ).loc main_arg1))
def wF (c : Dev nD) : Vec F S256x256 .bf16 := (win0_2.blk (0 : Fin 1)).view.read (Elt F) ((s₀ m ρ).mem ((c : Thread nD τ).loc main_arg2))

/-- The activation of the convolved block, and the projection's rows. -/
def actF (c : Dev nD) : FVec F S2048x256 .bf16 := k0_pay6 (k0_pay3 (xF m ρ c) (kF m ρ c)) (k0_pay4 (xF m ρ c)) (k0_pay5 (kF m ρ c))
def prjF (c : Dev nD) : FVec F S256x256 .bf16 := k0_pay7 (wF m ρ c)

/-- Block `j` of device `c`'s partial product, as stored. -/
def partB (c : Dev nD) : Dev nD → FVec F S1x256x256 .bf16 :=
  ![k0_pay8 (k0_pay3 (xF m ρ c) (kF m ρ c)) (k0_pay4 (xF m ρ c)) (k0_pay5 (kF m ρ c)) (wF m ρ c),
    k0_pay10 (k0_pay3 (xF m ρ c) (kF m ρ c)) (k0_pay4 (xF m ρ c)) (k0_pay5 (kF m ρ c)) (wF m ρ c),
    k0_pay13 (k0_pay12 (k0_pay3 (xF m ρ c) (kF m ρ c)) (k0_pay4 (xF m ρ c)) (k0_pay5 (kF m ρ c)) (wF m ρ c)),
    k0_pay15 (actF m ρ c) (prjF m ρ c), k0_pay17 (actF m ρ c) (prjF m ρ c), k0_pay19 (actF m ρ c) (prjF m ρ c),
    k0_pay21 (actF m ρ c) (prjF m ρ c), k0_pay24 (k0_pay23 (actF m ρ c) (prjF m ρ c))]

/-- The same block as a matrix. -/
def partV (c j : Dev nD) : Vec F S256x256 .bf16 := shapeCast S256x256 (partB m ρ c j) shapeCasts_S1x256x256_S256x256

/-- The received blocks on device `c`: slot `k` holds device `k`'s partial product of block `c`. -/
def recvF (c : Dev nD) : Vec F S8x256x256 .bf16 := fun i => partV m ρ (i 0) c (ix2 (i 1) (i 2))

/-- Their sum, and the sum as it is sent on. -/
def redF (c : Dev nD) : FVec F S256x256 .f32 := k0_pay26 (recvF m ρ c)
def srcF (c : Dev nD) : Vec F S256x256 .bf16 := k0_pay27 (redF m ρ c)

/-- Block `j` of the result on device `c`: its own sum as it is, another device's as received. -/
def outB (c j : Dev nD) : FVec F S1x256x256 .f32 :=
  if j = c then k0_pay29 (redF m ρ c) else k0_pay28 (shapeCast S1x256x256 (srcF m ρ j) shapeCasts_S256x256_S1x256x256)

end Cert.KernelIdealRun

end
-- ==== Proof.KernelIdealRun.Protocol.lean ====
/-
# The protocol

Every cell has one round. The barrier cell of device `c` is signalled once by each other device `d`, which hands over
its own slots `c` of the two receive buffers: what `c` needs before it may send to `d`. A receive entry `k` is paid by
device `k`'s transfer and hands over slot `k` filled; a send entry `k` by the device's own transfer to `k` and hands the
source back. The entries of a device's own index are not used.
-/
module

public import proofs.«01_k».proof.Proof.KernelIdealRun.Cells
public import Idealize.ShloMosaic.Lib.ShareLeaves

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Ownership of slots -/

/-- Device `c` owns a memref holding `X`, or holding anything. -/
abbrev own {sp : Space} {sh : Shape} {e : EltTy} (c : Dev nD) (M : Memref sig .tc sp sh e) (X : sh.Idx → Elt F e) : sProp 𝕄 :=
  owns (Ix := Unit) (Name := ℕ) (U := UU) (Lvl := ℕ) (c : Thread nD τ) M fullShare X
abbrev ownAny (F : FTy → Type) {sp : Space} {sh : Shape} {e : EltTy} (c : Dev nD) (M : Memref sig .tc sp sh e) : sProp (MT nD τ sig Unit (Elt F) ℕ UU ℕ) :=
  iprop(∃ X : sh.Idx → Elt F e, owns (Ix := Unit) (Name := ℕ) (U := UU) (Lvl := ℕ) (c : Thread nD τ) M fullShare X)

/-- One eighth of the buffer the second exchange sends from. -/
abbrev eighth (k : Dev nD) : PosShare TreeShare := ShareLeaves.leaf 3 fullShare k
def srcShare (c k : Dev nD) : sProp 𝕄 :=
  owns (Ix := Unit) (Name := ℕ) (U := UU) (Lvl := ℕ) (c : Thread nD τ) srcM (eighth k) (srcF m ρ c)

/-! ## The schedule -/

def dutiesOf (c : Dev nD) : Option CK → Finset (Dev nD)
  | some none => Finset.univ.erase c
  | some (some (_, k)) => if k = c then ∅ else {k}
  | none => ∅

def amountOf' : Option CK → ℕ
  | some none => 1
  | _ => N

def payloadOf (c : Dev nD) (d : Dev nD) : Option CK → sProp 𝕄
  | some none => iprop(ownAny F d (slotM p1M c) ∗ ownAny F d (slotM p2M c))
  | some (some (⟨0, _⟩, k)) => own c (slotM partM k) (partV m ρ c k)
  | some (some (⟨1, _⟩, k)) => own c (slotM p1M k) (partV m ρ k c)
  | some (some (⟨2, _⟩, k)) => srcShare m ρ c k
  | some (some (⟨_ + 3, _⟩, k)) => own c (slotM p2M k) (srcF m ρ k)
  | none => iprop(emp)

def sched : Rounds.Schedule (GSem nD τ sig) (Dev nD) 𝕄 where
  duties g r := if r = 0 ∧ g.1.2 = .tc then dutiesOf g.1.1 (kind g.2) else ∅
  unitless _ := False
  amount g _ _ := amountOf' (kind g.2)
  payload g _ d := payloadOf m ρ g.1.1 d (kind g.2)
  amount_pos g _ _ _ := by
    unfold amountOf'
    split
    · exact Nat.one_pos
    · exact N_pos

instance sched_payload_storable (g : GSem nD τ sig) (r : ℕ) (d : Dev nD) :
    BI.Storable (upEmb : UEmb _ 𝕄) ((sched (F := F) m ρ).payload g r d) := by
  show BI.Storable upEmb (payloadOf m ρ g.1.1 d (kind g.2))
  unfold payloadOf srcShare
  (repeat' split) <;> infer_instance

theorem duties_cell (c : Dev nD) (a : CK) : (sched (F := F) m ρ).duties (cell c a) 0 = dutiesOf c (some a) := by
  dsimp only [sched]; rw [if_pos ⟨rfl, rfl⟩, kind_csem]
theorem duties_later (g : GSem nD τ sig) : ∀ r, 1 ≤ r → (sched (F := F) m ρ).duties g r = ∅ :=
  fun r hr => by dsimp only [sched]; rw [if_neg fun h => by omega]
theorem amount_cell (c : Dev nD) (a : CK) (r : ℕ) (d : Dev nD) : (sched (F := F) m ρ).amount (cell c a) r d = amountOf' (some a) := by
  dsimp only [sched]; rw [kind_csem]
theorem payload_cell (c : Dev nD) (a : CK) (r : ℕ) (d : Dev nD) : (sched (F := F) m ρ).payload (cell c a) r d = payloadOf m ρ c d (some a) := by
  dsimp only [sched]; rw [kind_csem]

theorem duties_bar (c : Dev nD) : (sched (F := F) m ρ).duties (barCell c) 0 = Finset.univ.erase c := duties_cell m ρ c none
theorem duties_dma {q : Fin 4} {c k : Dev nD} (h : k ≠ c) : (sched (F := F) m ρ).duties (dCell q c k) 0 = {k} :=
  (duties_cell m ρ c (some (q, k))).trans (if_neg h)
theorem duties_dma_self {q : Fin 4} {c k : Dev nD} (h : k = c) : ∀ r, 0 ≤ r → (sched (F := F) m ρ).duties (dCell q c k) r = ∅ := by
  intro r _
  cases r with
  | zero => exact (duties_cell m ρ c (some (q, k))).trans (if_pos h)
  | succ r => exact duties_later m ρ _ _ (Nat.le_add_left 1 r)

theorem amount_bar (c : Dev nD) (r : ℕ) (d : Dev nD) : (sched (F := F) m ρ).amount (barCell c) r d = 1 := amount_cell m ρ c none r d
theorem amount_dma (q : Fin 4) (c k : Dev nD) (r : ℕ) (d : Dev nD) : (sched (F := F) m ρ).amount (dCell q c k) r d = N :=
  amount_cell m ρ c (some (q, k)) r d
theorem payload_bar (c : Dev nD) (r : ℕ) (d : Dev nD) :
    (sched (F := F) m ρ).payload (barCell c) r d = iprop(ownAny F d (slotM p1M c) ∗ ownAny F d (slotM p2M c)) := payload_cell m ρ c none r d
theorem payload_dma (q : Fin 4) (c k : Dev nD) (r : ℕ) (d : Dev nD) :
    (sched (F := F) m ρ).payload (dCell q c k) r d = payloadOf m ρ c d (some (some (q, k))) := payload_cell m ρ c (some (q, k)) r d

theorem expect_bar (c : Dev nD) : (sched (F := F) m ρ).expect (barCell c) 0 = 7 := by
  unfold Schedule.expect Schedule.amountOf
  rw [duties_bar, Finset.sum_congr rfl fun d _ => amount_bar m ρ c 0 d, Finset.sum_const, Finset.card_erase_of_mem (Finset.mem_univ _)]
  rfl
theorem expect_dma {q : Fin 4} {c k : Dev nD} (h : k ≠ c) : (sched (F := F) m ρ).expect (dCell q c k) 0 = N := by
  unfold Schedule.expect Schedule.amountOf; rw [duties_dma m ρ h, Finset.sum_singleton, amount_dma]

theorem rest_bar (c : Dev nD) : bigSep ((sched (F := F) m ρ).duties (barCell c) 0 \ ∅) (fun d => (sched (F := F) m ρ).payload (barCell c) 0 d)
    = bigSep (Finset.univ.erase c) fun d => (iprop(ownAny F d (slotM p1M c) ∗ ownAny F d (slotM p2M c)) : sProp 𝕄) := by
  rw [Finset.sdiff_empty, duties_bar]; exact bigSep_congr fun d _ => payload_bar m ρ c 0 d
theorem rest_dma {q : Fin 4} {c k : Dev nD} (h : k ≠ c) :
    bigSep ((sched (F := F) m ρ).duties (dCell q c k) 0 \ ∅) (fun d => (sched (F := F) m ρ).payload (dCell q c k) 0 d)
      = payloadOf m ρ c k (some (some (q, k))) := by
  rw [Finset.sdiff_empty, duties_dma m ρ h, bigSep_singleton, payload_dma]

/-! ## What each core owes; the levels -/

/-- The signals still to come from the `n`-th on. -/
def owedB (c : Dev nD) (n : ℕ) : CellTallies nD τ sig Unit := ∑ r ∈ Finset.Ico n 8, tallyAt (barCell (rot c r)) () 1
/-- The transfers still to come from the `n`-th on: `q = 1` the first exchange's, `q = 3` the second's. -/
def owedD (q : Fin 4) (c : Dev nD) (n : ℕ) : CellTallies nD τ sig Unit :=
  ∑ k ∈ Finset.univ.filter (fun k : Dev nD => n ≤ k.val ∧ k ≠ c), tallyAt (dCell q k c) () N

/-- Everything device `c` owes at launch. -/
def O₀ (c : Dev nD) : CellTallies nD τ sig Unit := (owedD 3 c 0 + owedD 1 c 0) + owedB c 1

theorem owedB_step (c : Dev nD) {n : ℕ} (h : n < 8) : owedB c n = owedB c (n + 1) + tallyAt (barCell (rot c n)) () 1 := by
  unfold owedB
  have : Finset.Ico n 8 = insert n (Finset.Ico (n + 1) 8) := by
    ext k; simp only [Finset.mem_Ico, Finset.mem_insert]; omega
  rw [this, Finset.sum_insert (by simp), add_comm]
theorem owedB_end (c : Dev nD) : owedB c 8 = 0 := by unfold owedB; rw [Finset.Ico_self, Finset.sum_empty]
theorem owedD_step (q : Fin 4) (c : Dev nD) {k : Dev nD} (h : k ≠ c) : owedD q c k.val = owedD q c (k.val + 1) + tallyAt (dCell q k c) () N := by
  unfold owedD
  have : Finset.univ.filter (fun k' : Dev nD => k.val ≤ k'.val ∧ k' ≠ c) = insert k (Finset.univ.filter (fun k' : Dev nD => k.val + 1 ≤ k'.val ∧ k' ≠ c)) := by
    ext k'
    simp only [Finset.mem_filter, Finset.mem_univ, true_and, Finset.mem_insert]
    constructor
    · rintro ⟨h1, h2⟩
      by_cases e : k' = k
      · exact Or.inl e
      · exact Or.inr ⟨Nat.lt_of_le_of_ne h1 fun h' => e (Fin.ext h'.symm), h2⟩
    · rintro (rfl | ⟨h1, h2⟩)
      · exact ⟨Nat.le_refl _, h⟩
      · exact ⟨Nat.le_of_succ_le h1, h2⟩
  rw [this, Finset.sum_insert (by simp), add_comm]
theorem owedD_self (q : Fin 4) (c : Dev nD) {k : Dev nD} (h : k = c) : owedD q c k.val = owedD q c (k.val + 1) := by
  unfold owedD
  refine Finset.sum_congr (Finset.filter_congr fun k' _ => ?_) fun _ _ => rfl
  constructor
  · rintro ⟨h1, h2⟩
    exact ⟨Nat.lt_of_le_of_ne h1 fun h' => h2 ((Fin.ext h'.symm).trans h), h2⟩
  · rintro ⟨h1, h2⟩
    exact ⟨Nat.le_of_succ_le h1, h2⟩
theorem owedD_end (q : Fin 4) (c : Dev nD) : owedD q c 8 = 0 := by
  unfold owedD
  rw [Finset.filter_eq_empty_iff.mpr (fun k _ h => absurd h.1 (Nat.not_le.mpr k.isLt)), Finset.sum_empty]

def L (g : GSem nD τ sig) : Finset Unit := if g.1.2 = .tc then {()} else ∅
def lvOf : Option CK → ℕ
  | some none => 1
  | some (some (⟨1, _⟩, _)) => 2
  | some (some (⟨3, _⟩, _)) => 3
  | _ => 0
/-- The barrier at 1, the first exchange's receive entries at 2, the second's at 3, everything else at 0. -/
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (a : CK) (u : Unit) : lv (cell c a) u = lvOf (some a) := by unfold lv; rw [kind_csem]

/-- The cells of a debt are this program's and above level `n`. -/
def Above (n : ℕ) (O : CellTallies nD τ sig Unit) : Prop := ∀ g u, 0 < O g u → ∃ c a, g = cell c a ∧ n < lvOf (some a)

theorem above_zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with e | e
  · exact h' g u (by rw [e, Nat.zero_add] at hg; exact hg)
  · exact h g u e
theorem above_tally {n k : ℕ} (c : Dev nD) (a : CK) (h : n < lvOf (some a)) : Above n (tallyAt (cell c a) () k) := fun g u hg => by
  rw [tallyAt_apply] at hg
  by_cases e : g = cell c a ∧ u = ()
  · exact ⟨c, a, e.1, h⟩
  · rw [if_neg e] at hg; exact absurd hg (Nat.lt_irrefl 0)
theorem above_sum {ι : Type} {n : ℕ} (S : Finset ι) (f : ι → CellTallies nD τ sig Unit) (h : ∀ i ∈ S, Above n (f i)) : Above n (∑ i ∈ S, f i) := by
  classical
  induction S using Finset.induction_on with
  | empty => rw [Finset.sum_empty]; exact above_zero n
  | insert i S hi ih =>
    rw [Finset.sum_insert hi]
    exact (h i (Finset.mem_insert_self _ _)).add (ih fun j hj => h j (Finset.mem_insert_of_mem hj))

theorem above_owedB (c : Dev nD) (n : ℕ) : Above 0 (owedB c n) := above_sum _ _ fun r _ => above_tally _ none (by decide)
theorem above_owedD1 (c : Dev nD) (n : ℕ) : Above 1 (owedD 1 c n) := above_sum _ _ fun k _ => above_tally k (some (1, c)) (by show 1 < 2; decide)
theorem above_owedD3 (c : Dev nD) (n : ℕ) : Above 2 (owedD 3 c n) := above_sum _ _ fun k _ => above_tally k (some (3, c)) (by show 2 < 3; decide)
theorem Above.mono {n n' : ℕ} {O : CellTallies nD τ sig Unit} (h : Above n O) (hn : n' ≤ n) : Above n' O := fun g u hg => by
  obtain ⟨c, a, e, hl⟩ := h g u hg
  exact ⟨c, a, e, Nat.lt_of_le_of_lt hn hl⟩

/-- A wait on a cell of level at most `n`, owing cells above `n` only. -/
theorem mayWait (c : Dev nD) (sm : SemLoc sig) (n : ℕ) (h : lvOf (kind sm) ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', a, rfl, -⟩ := hO g u hg; exact Finset.mem_singleton_self _)
    (fun p hp => by rw [Finset.mem_singleton.mp hp]; exact h)
    (fun g u hg => by obtain ⟨c', a, rfl, hl⟩ := hO g u hg; rw [lv_cell]; exact hl)

theorem mayWait_bar (c : Dev nD) {O : CellTallies nD τ sig Unit} (hO : Above 1 O) :
    (levAts L lv : sProp 𝕄) ⊢ MayWait (c : Thread nD τ) (.reg barS) () O :=
  mayWait c (.reg barS) 1 (le_of_eq (congrArg lvOf (kind_csem none))) hO
theorem mayWait_dma (q : Fin 4) (c k : Dev nD) {O : CellTallies nD τ sig Unit} (hO : Above (lvOf (some (some (q, k)))) O) :
    (levAts L lv : sProp 𝕄) ⊢ MayWait (c : Thread nD τ) (.dma (dsem q k)) () O :=
  mayWait c (.dma (dsem q k)) _ (le_of_eq (congrArg lvOf (kind_csem (some (q, k))))) hO

/-! ## The shared records: every cell's invariant, that every cell has reached its round, the levels -/

def recs (K : Dev nD × CK → ℕ) : sProp 𝕄 :=
  iprop((bigSep Finset.univ fun ca : Dev nD × CK => cellInv ER (sched m ρ) (K ca) (cell ca.1 ca.2))
    ∗ (bigSep Finset.univ fun ca : Dev nD × CK => reached ER (cell ca.1 ca.2) 0) ∗ levAts L lv)

instance recs_persistent (K : Dev nD × CK → ℕ) : BI.Persistent (recs (F := F) m ρ K) := by unfold recs; infer_instance

theorem inv_at (K : Dev nD × CK → ℕ) (ca : Dev nD × CK) :
    (bigSep Finset.univ fun ca : Dev nD × CK => (cellInv ER (sched m ρ) (K ca) (cell ca.1 ca.2) : sProp 𝕄)) ⊢ cellInv ER (sched m ρ) (K ca) (cell ca.1 ca.2) :=
  bigSep_elim (Finset.mem_univ ca)
theorem reached_at (ca : Dev nD × CK) :
    (bigSep Finset.univ fun ca : Dev nD × CK => (reached ER (cell ca.1 ca.2) 0 : sProp 𝕄)) ⊢ reached ER (cell ca.1 ca.2) 0 :=
  bigSep_elim (Finset.mem_univ ca)

theorem recs_inv (K : Dev nD × CK → ℕ) (c : Dev nD) (a : CK) : recs (F := F) m ρ K ⊢ cellInv ER (sched m ρ) (K (c, a)) (cell c a) := by
  unfold recs; iintro ⟨H, -, -⟩
  iapply (inv_at m ρ K (c, a)); iexact H
theorem recs_reached (K : Dev nD × CK → ℕ) (c : Dev nD) (a : CK) : recs (F := F) m ρ K ⊢ reached ER (cell c a) 0 := by
  unfold recs; iintro ⟨-, H, -⟩
  iapply (reached_at (F := F) (c, a)); iexact H
variable (K : Dev nD × CK → ℕ) in
theorem recs_inv_bar (c : Dev nD) : recs (F := F) m ρ K ⊢ cellInv ER (sched m ρ) (K (c, none)) (barCell c) := recs_inv m ρ K c none
variable (K : Dev nD × CK → ℕ) in
theorem recs_inv_dma (q : Fin 4) (c k : Dev nD) : recs (F := F) m ρ K ⊢ cellInv ER (sched m ρ) (K (c, some (q, k))) (dCell q c k) :=
  recs_inv m ρ K c (some (q, k))
variable (K : Dev nD × CK → ℕ) in
theorem recs_reached_bar (c : Dev nD) : recs (F := F) m ρ K ⊢ reached ER (barCell c) 0 := recs_reached m ρ K c none
variable (K : Dev nD × CK → ℕ) in
theorem recs_reached_dma (q : Fin 4) (c k : Dev nD) : recs (F := F) m ρ K ⊢ reached ER (dCell q c k) 0 := recs_reached m ρ K c (some (q, k))
theorem recs_levs (K : Dev nD × CK → ℕ) : recs (F := F) m ρ K ⊢ levAts L lv := by
  unfold recs; iintro ⟨-, -, H⟩; iexact H

end Cert.KernelIdealRun

end
-- ==== Proof.KernelIdealRun.Steps.lean ====
/-
# The steps of the body, at a symbolic device and a symbolic other device

One lemma for each thing the body does for a device `j`: signal it, store its block, send it the block, keep the own
block, receive a block, send the sum, receive a sum and store it, store the own sum, collect the sends. Where the body
asks whether `j` is the device itself, the lemma covers both answers.
-/
module

public import proofs.«01_k».proof.Proof.KernelIdealRun.Protocol
public import Idealize.ShloMosaic.Lib.Pipeline.Value

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

abbrev P (F : FTy → Type) [FloatOps F] (α : Type) : Type 1 := Prog (TpuEff nD τ sig (Elt F) Λ₀ .tc) α
abbrev WP (c : Dev nD) {α : Type} (p : P F α) (Q : α → sProp 𝕄) : sProp 𝕄 :=
  wp frame (wpE (defs₀ (F := F)) 𝒱₀ (c : Thread nD τ) none) Set.univ p Q

/-- Device `c` owes `O`, whatever it has waited for. -/
def ow (F : FTy → Type) (c : Dev nD) (O : CellTallies nD τ sig Unit) : sProp (MT nD τ sig Unit (Elt F) ℕ UU ℕ) :=
  iprop(∃ W : Waits sig Unit, owes (c : Thread nD τ) O W)

theorem WP_bind (c : Dev nD) {α β : Type} (p : P F α) (k : α → P F β) (Φ : β → sProp 𝕄) :
    WP c (p >>= k) Φ = WP c p (fun a => WP c (k a) Φ) := wp_bind _ _ _ p k Φ
theorem step_pure (c : Dev nD) {α : Type} (a : α) {Φ : α → sProp 𝕄} : Φ a ⊢ WP c (pure a) Φ := by
  show _ ⊢ wp _ _ _ (Prog.ret a) _
  rw [wp_ret]; exact fupd_intro
theorem step_ret (c : Dev nD) {α : Type} (a : α) {Φ : α → sProp 𝕄} : Φ a ⊢ WP c (.ret a) Φ := step_pure c a

/-! ## The signal -/

theorem step_signal (c : Dev nD) (r : ℕ) (hr : 0 < r ∧ r < 8) (n : Dev nD) (hn : n = rot c r) (w : BitVec 32) (hw : w.toInt = 1)
    (O : CellTallies nD τ sig Unit) {α : Type} {k : PUnit → P F α} {Φ : α → sProp 𝕄} :
    iprop(recs m ρ K ∗ (ow F c (O + owedB c r) ∗ dutyTok ER (barCell (rot c r)) 0 c
        ∗ ownAny F c (slotM p1M (rot c r)) ∗ ownAny F c (slotM p2M (rot c r))) ∗ (ow F c (O + owedB c (r + 1)) -∗ WP c (k ⟨⟩) Φ))
      ⊢ WP c (semSignalWord n barS w >>= k) Φ := by
  subst hn
  have hne : c ≠ rot c r := fun h => by
    have := congrArg Fin.val h
    unfold rot at this
    have h8 : c.val < 8 := c.isLt
    simp only at this
    omega
  unfold semSignalWord ow
  rw [hw]
  iintro ⟨#HR, ⟨⟨%W, HO⟩, Htok, H1, H2⟩, Hk⟩
  iapply (Rounds.wp_signal 𝒱₀ ER (sched m ρ) (c : Thread nD τ) none (dst := (rot c r : Thread nD τ)) (κ := K (rot c r, none))
      (d := c) (by rw [duties_bar]; exact Finset.mem_erase.mpr ⟨hne, Finset.mem_univ _⟩) (amount_bar m ρ (rot c r) 0 c) ()
      (O₀ := O + owedB c r) (O + owedB c (r + 1)) (by rw [owedB_step c hr.2, add_assoc])) $$ [HO Htok H1 H2]
  · isplitr; · iapply (recs_inv_bar m ρ K (rot c r)); iexact HR
    isplitl [HO]; · iexact HO
    isplitl [Htok]; · iexact Htok
    isplitl [H1 H2]
    · rw [payload_bar]
      isplitl [H1] <;> iassumption
    iapply (recs_reached_bar m ρ K (rot c r)); iexact HR
  iintro HO
  iapply Hk
  iexists W; iexact HO

/-! ## The wait for the seven signals -/

theorem bar_join (c : Dev nD) :
    iprop((ownAny F c (slotM p1M c) ∗ ownAny F c (slotM p2M c)) ∗ bigSep (Finset.univ.erase c) fun d => iprop(ownAny F d (slotM p1M c) ∗ ownAny F d (slotM p2M c)))
      ⊢ bigSep Finset.univ fun d => iprop(ownAny F d (slotM p1M c) ∗ ownAny F d (slotM p2M c)) :=
  Entails.of_eq (bigSep_erase (Φ := fun d => iprop(ownAny F d (slotM p1M c) ∗ ownAny F d (slotM p2M c))) (Finset.mem_univ c)).symm

theorem step_barrier (c : Dev nD) (w : BitVec 32) (hw : w.toInt = ((7 : ℕ) : ℤ)) (O : CellTallies nD τ sig Unit) (hO : Above 1 O) {α : Type} {k : PUnit → P F α} {Φ : α → sProp 𝕄} :
    iprop(recs m ρ K ∗ (ow F c O ∗ atPos ER (barCell c) 0 ∅ 0 ∗ cred (tallyAt (barCell c) () 7)
        ∗ ownAny F c (slotM p1M c) ∗ ownAny F c (slotM p2M c))
      ∗ ((ow F c O ∗ semVal (barCell c) 0 ∗ bigSep Finset.univ fun d => iprop(ownAny F d (slotM p1M c) ∗ ownAny F d (slotM p2M c))) -∗ WP c (k ⟨⟩) Φ))
      ⊢ WP c (semWaitWord barS w >>= k) Φ := by
  unfold semWaitWord ow
  rw [hw]
  iintro ⟨#HR, ⟨⟨%W, HO⟩, Hat, Hc, H1, H2⟩, Hk⟩
  iapply (Rounds.wp_wait_rest_token 𝒱₀ ER (sched m ρ) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Hat]
  · isplitr; · iapply (recs_inv_bar m ρ K c); iexact HR
    isplitl [Hc]; · iexact Hc
    isplitl [HO]; · iexact HO
    isplitr; · iapply (mayWait_bar c hO); iapply (recs_levs m ρ K); iexact HR
    iexact Hat
  iintro ⟨HO, Hat, -, Hpay⟩
  ihave Hp := (Entails.of_eq (rest_bar m ρ c)) $$ Hpay
  imod (Rounds.cell_close ER (sched m ρ) (Set.mem_univ (K (c, none))) (fun h => h) (R := 0 + 1) (duties_later m ρ (barCell c))) $$ [Hat] with Hz
  · isplitr; · iapply (recs_inv_bar m ρ K c); iexact HR
    iexact Hat
  iapply Hk
  isplitl [HO]; · iexists _; iexact HO
  isplitl [Hz]; · iexact Hz
  iapply (bar_join (F := F) c)
  isplitr [Hp]
  · isplitl [H1] <;> iassumption
  iexact Hp

/-! ## Loads and stores of a slot -/

theorem shape_slot : S256x256.numel = S1x256x256.numel := squeezes_S1x256x256_S256x256.numel_eq

/-- A load of slot `j` reads its contents. -/
theorem step_load_slot (M : Memref sig .tc .vmem S8x256x256 .bf16) (c j : Dev nD) (q : PosShare TreeShare) (X : Vec F S256x256 .bf16)
    {hl : M.view.LoadsAt (slotRect j).toLoadRect} {α : Type} {k : Vec F S1x256x256 .bf16 → P F α} {Φ : α → sProp 𝕄} :
    iprop(owns (c : Thread nD τ) (slotM M j) q X
        ∗ (owns (c : Thread nD τ) (slotM M j) q X -∗ WP c (k (shapeCast S1x256x256 X shapeCasts_S256x256_S1x256x256)) Φ))
      ⊢ WP c (Prog.lift (.load M (slotRect j).toLoadRect hl) >>= k) Φ := by
  unfold owns
  iintro ⟨⟨%f, %hf, H⟩, Hk⟩
  subst hf
  iapply (wp_load_rect 𝒱₀ (c : Thread nD τ) none Set.univ (m := M) (r := slotRect j)
    (S := (slotM M j).view.set) (q := q) (f := f) (le_of_eq (View.set_reshape _ _).symm)) $$ H
  iintro H
  rw [show (M.access (slotRect j)).read (Elt F) f = shapeCast S1x256x256 ((slotM M j).view.read (Elt F) f) shapeCasts_S256x256_S1x256x256 from
    (Idealize.ShloMosaic.shapeCast_shapeCast ((M.access (slotRect j)).read (Elt F) f) shapeCasts_S1x256x256_S256x256 shapeCasts_S256x256_S1x256x256).symm]
  iapply Hk
  iexists f
  isplitr; · ipureintro; rfl
  iexact H

theorem read_slot (M : Memref sig .tc .vmem S8x256x256 .bf16) (j : Dev nD) (f : M.view.ty.Contents (Elt F)) :
    (slotM M j).view.read (Elt F) f = shapeCast S256x256 ((M.access (slotRect j)).read (Elt F) f) shapeCasts_S1x256x256_S256x256 := rfl

theorem read_slot_write (M : Memref sig .tc .vmem S8x256x256 .bf16) (j : Dev nD) (f : M.view.ty.Contents (Elt F)) (w : Vec F S1x256x256 .bf16) :
    (slotM M j).view.read (Elt F) ((M.access (slotRect j)).write (Elt F) f w Finset.univ) = shapeCast S256x256 w shapeCasts_S1x256x256_S256x256 := by
  rw [read_slot, View.read_write_univ]

/-- A store to slot `j`, whatever it holds. -/
theorem step_store_slot (M : Memref sig .tc .vmem S8x256x256 .bf16) (c j : Dev nD) (w : Vec F S1x256x256 .bf16)
    {hx : (M.access (slotRect j)).Stores Finset.univ} {hm} {α : Type} {k : PUnit → P F α} {Φ : α → sProp 𝕄} :
    iprop(ownAny F c (slotM M j) ∗ (own c (slotM M j) (shapeCast S256x256 w shapeCasts_S1x256x256_S256x256) -∗ WP c (k ⟨⟩) Φ))
      ⊢ WP c (Prog.lift (.store M (slotRect j) w Finset.univ hx hm) >>= k) Φ := by
  unfold ownAny own owns
  iintro ⟨⟨%X, %f, %hf, H⟩, Hk⟩
  iapply (wp_store 𝒱₀ (c : Thread nD τ) none Set.univ (m := M) (r := slotRect j) (Mk := Finset.univ)
    (S := (slotM M j).view.set) (f := f) (le_of_eq (View.set_reshape _ _).symm)) $$ H
  iintro H
  iapply Hk
  iexists _
  isplitr [H]
  rotate_left
  · iexact H
  ipureintro
  exact read_slot_write M j f w

/-! ## A transfer, a wait, a cell that is not used -/

/-- A store into slot `j`, after a load of it that nothing reads. -/
theorem step_put (M : Memref sig .tc .vmem S8x256x256 .bf16) (c j : Dev nD) (w : Vec F S1x256x256 .bf16)
    {hl : M.view.LoadsAt (slotRect j).toLoadRect} {hx : (M.access (slotRect j)).Stores Finset.univ} {hm} {α : Type} {k : PUnit → P F α} {Φ : α → sProp 𝕄} :
    iprop(ownAny F c (slotM M j) ∗ (own c (slotM M j) (shapeCast S256x256 w shapeCasts_S1x256x256_S256x256) -∗ WP c (k ⟨⟩) Φ))
      ⊢ WP c (Prog.lift (.load M (slotRect j).toLoadRect hl) >>= fun _ => Prog.lift (.store M (slotRect j) w Finset.univ hx hm) >>= k) Φ := by
  iintro ⟨⟨%X, H⟩, Hk⟩
  iapply (step_load_slot M c j fullShare X)
  isplitl [H]; · iexact H
  iintro H
  iapply (step_store_slot M c j w)
  isplitl [H]; · iexists X; iexact H
  iexact Hk

/-- A transfer to another device `n`: paid at `n`'s receive entry for `c` and at the own send entry for `n`. -/
theorem send_to (c n : Dev nD) (hn : n ≠ c) (qs qr : Fin 4) {sh : Shape} {e : EltTy} (src dst : Memref sig .tc .vmem sh e)
    (q : PosShare TreeShare) (X : sh.Idx → Elt F e) (hN : dst.view.dmaCredit = N) (O : CellTallies nD τ sig Unit)
    (hp1 : (owns (c : Thread nD τ) src q X : sProp 𝕄) ⊢ payloadOf m ρ c n (some (some (qs, n))))
    (hp2 : (owns (n : Thread nD τ) dst fullShare X : sProp 𝕄) ⊢ payloadOf m ρ n c (some (some (qr, c))))
    {hsc : dst.view.ref.isScScratch = false} {hsrc : src.view.WordExact} {hdst : dst.view.WordExact}
    {hsem : DmaTarget.Typed .vmem (.dma (dsem qr c)) (.remote (n : Thread nD τ) dst (.dma (dsem qs n)) hsc)} {α : Type} {k : PUnit → P F α} {Φ : α → sProp 𝕄} :
    iprop(recs m ρ K ∗ (owns (c : Thread nD τ) src q X ∗ ownAny F n dst ∗ ow F c (O + tallyAt (dCell qr n c) () N)
          ∗ dutyTok ER (dCell qs c n) 0 n ∗ dutyTok ER (dCell qr n c) 0 c)
        ∗ ((cred (tallyAt (dCell qs c n) () N) ∗ ow F c O) -∗ WP c (k ⟨⟩) Φ))
      ⊢ WP c (Prog.lift (.enqueueDma src (.remote (n : Thread nD τ) dst (.dma (dsem qs n)) hsc) (.dma (dsem qr c)) hsrc hdst hsem) >>= k) Φ := by
  unfold ow ownAny
  iintro ⟨#HR, ⟨Hs, ⟨%Y, Hd⟩, ⟨%W, HO⟩, Ht1, Ht2⟩, Hk⟩
  unfold owns
  icases Hs with ⟨%fs, %hfs, Hs⟩
  icases Hd with ⟨%fd, %hfd, Hd⟩
  subst hfs
  iapply (Rounds.wp_send_pointsTo 𝒱₀ ER (sched m ρ) (c : Thread nD τ) none (c' := (n : Thread nD τ)) (src := src) (dst := dst)
      (sS := .dma (dsem qs n)) (sem := .dma (dsem qr c)) (q := q) (fs := fs) (fd := fd) (r₁ := 0) (r₂ := 0) (d₁ := n) (d₂ := c)
      (κ₁ := K (c, some (qs, n))) (κ₂ := K (n, some (qr, c)))
      (by rw [duties_dma m ρ hn]; exact Finset.mem_singleton_self _) (by rw [duties_dma m ρ hn.symm]; exact Finset.mem_singleton_self _)
      () () N hN (amount_dma m ρ qs c n 0 n) (amount_dma m ρ qr n c 0 c) O rfl (W := W)
      ((owns_intro (c : Thread nD τ) src q fs).trans (hp1.trans (Entails.of_eq (payload_dma m ρ qs c n 0 n).symm)))
      ((owns_intro (n : Thread nD τ) dst fullShare _).trans (by
        rw [View.read_write_univ]; exact hp2.trans (Entails.of_eq (payload_dma m ρ qr n c 0 c).symm))))
    $$ [Hs Hd HO Ht1 Ht2]
  · isplitr; · iapply (recs_inv_dma m ρ K qs c n); iexact HR
    isplitr; · iapply (recs_inv_dma m ρ K qr n c); iexact HR
    isplitl [Hs]; · iexact Hs
    isplitl [Hd]; · iexact Hd
    isplitl [HO]; · iexact HO
    isplitl [Ht1]; · iexact Ht1
    isplitr; · iapply (recs_reached_dma m ρ K qs c n); iexact HR
    isplitl [Ht2]; · iexact Ht2
    iapply (recs_reached_dma m ρ K qr n c); iexact HR
  iintro ⟨Hc, HO⟩
  iapply Hk
  isplitl [Hc]; · iexact Hc
  iexists W; iexact HO

/-- The right to wait at entry `k` of array `q`. -/
abbrev pos (F : FTy → Type) (q : Fin 4) (c k : Dev nD) : sProp (MT nD τ sig Unit (Elt F) ℕ UU ℕ) := atPos ER (dCell q c k) 0 ∅ 0
abbrev crd (F : FTy → Type) (q : Fin 4) (c k : Dev nD) : sProp (MT nD τ sig Unit (Elt F) ℕ UU ℕ) := cred (tallyAt (dCell q c k) () N)
abbrev clr (F : FTy → Type) (q : Fin 4) (c k : Dev nD) : sProp (MT nD τ sig Unit (Elt F) ℕ UU ℕ) := semVal (dCell q c k) 0

theorem wait_at (c k : Dev nD) (hk : k ≠ c) (q : Fin 4) {sh sh' : Shape} {e e' : EltTy} (src : Memref sig .tc .vmem sh e) (dst : Memref sig .tc .vmem sh' e')
    (hN : dst.view.dmaCredit = N) (O : CellTallies nD τ sig Unit) (hO : Above (lvOf (some (some (q, k)))) O)
    {h1 : src.view.WordExact} {h2 : dst.view.WordExact} {α : Type} {kk : PUnit → P F α} {Φ : α → sProp 𝕄} :
    iprop(recs m ρ K ∗ (pos F q c k ∗ crd F q c k ∗ ow F c O)
        ∗ ((clr F q c k ∗ payloadOf m ρ c k (some (some (q, k))) ∗ ow F c O) -∗ WP c (kk ⟨⟩) Φ))
      ⊢ WP c (Prog.lift (.waitDma2 (dsem q k) src dst h1 h2) >>= kk) Φ := by
  unfold ow
  iintro ⟨#HR, ⟨Hat, Hc, ⟨%W, HO⟩⟩, Hk⟩
  iapply (Rounds.wp_wait_rest_token 𝒱₀ ER (sched m ρ) (c : Thread nD τ) none (κ := K (c, some (q, k))) (sm := .dma (dsem q k)) (k' := N)
      (by rw [← hN]; exact wpE_waitDma2_eq 𝒱₀ (c : Thread nD τ) none Set.univ) (Set.mem_univ _) () (O := O) (W := W) (R := 0) (m := 0) (T := ∅)
      (by rw [expect_dma m ρ hk, Nat.zero_add])) $$ [Hc HO Hat]
  · isplitr; · iapply (recs_inv_dma m ρ K q c k); iexact HR
    isplitl [Hc]; · iexact Hc
    isplitl [HO]; · iexact HO
    isplitr; · iapply (mayWait_dma q c k hO); iapply (recs_levs m ρ K); iexact HR
    iexact Hat
  iintro ⟨HO, Hat, -, Hpay⟩
  ihave Hp := (Entails.of_eq (rest_dma m ρ hk)) $$ Hpay
  imod (Rounds.cell_close ER (sched m ρ) (Set.mem_univ (K (c, some (q, k)))) (fun h => h) (R := 0 + 1) (duties_later m ρ (dCell q c k))) $$ [Hat] with Hz
  · isplitr; · iapply (recs_inv_dma m ρ K q c k); iexact HR
    iexact Hat
  iapply Hk
  isplitl [Hz]; · iexact Hz
  isplitl [Hp]; · iexact Hp
  iexists _; iexact HO

theorem close_self (c k : Dev nD) (hk : k = c) (q : Fin 4) : iprop(recs m ρ K ∗ pos F q c k) ⊢ iprop(|={Set.univ}=> clr F q c k) := by
  iintro ⟨#HR, Hat⟩
  iapply (Rounds.cell_close ER (sched m ρ) (Set.mem_univ (K (c, some (q, k)))) (fun h => h) (R := 0) (duties_dma_self m ρ hk))
  isplitr; · iapply (recs_inv_dma m ρ K q c k); iexact HR
  iexact Hat

/-! ## The first exchange -/

/-- What sending block `j` takes, besides the block. -/
def Pre1 (F : FTy → Type) (c j : Dev nD) : sProp (MT nD τ sig Unit (Elt F) ℕ UU ℕ) :=
  iprop(ownAny F j (slotM p1M c) ∗ if j = c then emp else iprop(dutyTok ER (dCell 0 c j) 0 j ∗ dutyTok ER (dCell 1 j c) 0 c))
/-- The block of device `j` once sent: `j`'s receipt is due back; the own block stays. -/
def Mid1 (c j : Dev nD) : sProp 𝕄 :=
  if j = c then iprop(own c (slotM partM j) (partV m ρ c j) ∗ ownAny F c (slotM p1M j)) else crd F 0 c j
/-- The same once the own block is in its receive slot. -/
def Done1 (c j : Dev nD) : sProp 𝕄 :=
  if j = c then iprop(own c (slotM partM j) (partV m ρ c j) ∗ own c (slotM p1M j) (partV m ρ j c)) else crd F 0 c j
/-- What is left to collect of the send. -/
def Left1 (c j : Dev nD) : sProp 𝕄 := if j = c then own c (slotM partM j) (partV m ρ c j) else crd F 0 c j
/-- What a receive entry takes to wait for. -/
def Wt (F : FTy → Type) (q : Fin 4) (c j : Dev nD) : sProp (MT nD τ sig Unit (Elt F) ℕ UU ℕ) :=
  iprop(pos F q c j ∗ if j = c then emp else crd F q c j)

theorem step_send1 (c j : Dev nD) (b : BitVec 1) (hb : b = 1#1 ↔ j ≠ c) (src : Memref sig .tc .vmem S256x256 .bf16) (hsrc : src = slotM partM j)
    (dev : b = 1#1 → Dev nD) (hdev : ∀ h, dev h = j) (dst : b = 1#1 → Memref sig .tc .vmem S256x256 .bf16) (hdst : ∀ h, dst h = slotM p1M c)
    (ss : b = 1#1 → DmaSem sig) (hss : ∀ h, ss h = dsem 0 j) (rs : b = 1#1 → DmaSem sig) (hrs : ∀ h, rs h = dsem 1 c) (O : CellTallies nD τ sig Unit)
    {hsc : ∀ h, (dst h).view.ref.isScScratch = false} {hws : b = 1#1 → src.view.WordExact} {hwd : ∀ h, (dst h).view.WordExact}
    {hsem : ∀ h, DmaTarget.Typed .vmem (.dma (rs h)) (.remote (dev h : Thread nD τ) (dst h) (.dma (ss h)) (hsc h))} {α : Type} {k : P F α} {Φ : α → sProp 𝕄} :
    iprop(recs m ρ K ∗ (own c (slotM partM j) (partV m ρ c j) ∗ Pre1 F c j ∗ ow F c (O + owedD 1 c j.val))
        ∗ ((Mid1 m ρ c j ∗ ow F c (O + owedD 1 c (j.val + 1))) -∗ WP c k Φ))
      ⊢ WP c (if h : b = 1#1 then
          (Prog.lift (.enqueueDma src (.remote (dev h : Thread nD τ) (dst h) (.dma (ss h)) (hsc h)) (.dma (rs h)) (hws h) (hwd h) (hsem h)) >>= fun _ => k)
        else k) Φ := by
  subst hsrc
  unfold Pre1 Mid1
  by_cases h : j = c
  · rw [dif_neg (fun e => hb.mp e h), if_pos h, if_pos h, ← owedD_self 1 c h]
    iintro ⟨-, ⟨Hp, ⟨H1, -⟩, HO⟩, Hk⟩
    iapply Hk
    isplitr [HO]
    · isplitl [Hp]; · iexact Hp
      subst h; iexact H1
    iexact HO
  · have hb' := hb.mpr h
    rw [dif_pos hb', if_neg h, if_neg h, owedD_step 1 c h, ← add_assoc]
    generalize hsc hb' = a1
    generalize hwd hb' = a2
    generalize hsem hb' = a3
    revert a1 a2 a3
    rw [hdev hb', hdst hb', hss hb', hrs hb']
    intro a1 a2 a3
    iintro ⟨HR, ⟨Hp, ⟨H1, Ht⟩, HO⟩, Hk⟩
    iapply (send_to m ρ K c j h 0 1 (slotM partM j) (slotM p1M c) fullShare (partV m ρ c j) rfl (O + owedD 1 c (j.val + 1)) Entails.rfl Entails.rfl)
    isplitl [HR]; · iexact HR
    icases Ht with ⟨Ht1, Ht2⟩
    isplitr [Hk]
    · isplitl [Hp]; · iexact Hp
      isplitl [H1]; · iexact H1
      isplitl [HO]; · iexact HO
      isplitl [Ht1] <;> iassumption
    iintro ⟨Hc, HO⟩
    iapply Hk
    isplitl [Hc] <;> iassumption

/-- The device's own block goes from the buffer of partial products to its receive slot. -/
theorem step_own1 (c j : Dev nD) (b : BitVec 1) (hb : b = 1#1 ↔ j = c) (pay : Vec F S1x256x256 .bf16 → Vec F S1x256x256 .bf16) (hpay : ∀ v, pay v = v)
    {hl1 : b = 1#1 → partM.view.LoadsAt (slotRect j).toLoadRect} {hl2 : b = 1#1 → p1M.view.LoadsAt (slotRect j).toLoadRect}
    {hx : b = 1#1 → (p1M.access (slotRect j)).Stores Finset.univ} {hm : b = 1#1 → (Finset.univ = Finset.univ ∨ ∀ a, (slotRect j).stride a = 1)}
    {α : Type} {k : P F α} {Φ : α → sProp 𝕄} :
    iprop(Mid1 m ρ c j ∗ (Done1 m ρ c j -∗ WP c k Φ))
      ⊢ WP c (if h : b = 1#1 then
          (Prog.lift (.load partM (slotRect j).toLoadRect (hl1 h)) >>= fun v => Prog.lift (.load p1M (slotRect j).toLoadRect (hl2 h)) >>= fun _ =>
            Prog.lift (.store p1M (slotRect j) (pay v) Finset.univ (hx h) (hm h)) >>= fun _ => k)
        else k) Φ := by
  unfold Mid1 Done1
  by_cases h : j = c
  · subst h
    rw [dif_pos (hb.mpr rfl), if_pos rfl, if_pos rfl]
    iintro ⟨⟨Hp, ⟨%Y, H1⟩⟩, Hk⟩
    iapply (step_load_slot partM j j fullShare (partV m ρ j j))
    isplitl [Hp]; · iexact Hp
    iintro Hp
    iapply (step_load_slot p1M j j fullShare Y)
    isplitl [H1]; · iexact H1
    iintro H1
    rw [hpay]
    iapply (step_store_slot p1M j j)
    isplitl [H1]; · iexists Y; iexact H1
    iintro H1
    iapply Hk
    isplitl [Hp]; · iexact Hp
    rw [shapeCast_shapeCast]
    iexact H1
  · rw [dif_neg (fun e => h (hb.mp e)), if_neg h, if_neg h]
    iintro ⟨H, Hk⟩
    iapply Hk; iexact H

/-- The whole of the first exchange's work for the block of device `j`: store it, send it to another device, or put it
    into the own receive slot. -/
theorem step_block1 (c j : Dev nD) (w : Vec F S1x256x256 .bf16) (hw : w = partB m ρ c j)
    (b : BitVec 1) (hb : b = 1#1 ↔ j ≠ c) (src : Memref sig .tc .vmem S256x256 .bf16) (hsrc : src = slotM partM j)
    (dev : b = 1#1 → Dev nD) (hdev : ∀ h, dev h = j) (dst : b = 1#1 → Memref sig .tc .vmem S256x256 .bf16) (hdst : ∀ h, dst h = slotM p1M c)
    (ss : b = 1#1 → DmaSem sig) (hss : ∀ h, ss h = dsem 0 j) (rs : b = 1#1 → DmaSem sig) (hrs : ∀ h, rs h = dsem 1 c)
    (b' : BitVec 1) (hb' : b' = 1#1 ↔ j = c) (pay : Vec F S1x256x256 .bf16 → Vec F S1x256x256 .bf16) (hpay : ∀ v, pay v = v) (O : CellTallies nD τ sig Unit)
    {hl : partM.view.LoadsAt (slotRect j).toLoadRect} {hx : (partM.access (slotRect j)).Stores Finset.univ} {hm}
    {hsc : ∀ h, (dst h).view.ref.isScScratch = false} {hws : b = 1#1 → src.view.WordExact} {hwd : ∀ h, (dst h).view.WordExact}
    {hsem : ∀ h, DmaTarget.Typed .vmem (.dma (rs h)) (.remote (dev h : Thread nD τ) (dst h) (.dma (ss h)) (hsc h))}
    {hl1 : b' = 1#1 → partM.view.LoadsAt (slotRect j).toLoadRect} {hl2 : b' = 1#1 → p1M.view.LoadsAt (slotRect j).toLoadRect}
    {hx' : b' = 1#1 → (p1M.access (slotRect j)).Stores Finset.univ} {hm' : b' = 1#1 → (Finset.univ = Finset.univ ∨ ∀ a, (slotRect j).stride a = 1)}
    {α : Type} {k : P F α} {Φ : α → sProp 𝕄} :
    iprop(recs m ρ K ∗ (ownAny F c (slotM partM j) ∗ Pre1 F c j ∗ ow F c (O + owedD 1 c j.val))
        ∗ ((Done1 m ρ c j ∗ ow F c (O + owedD 1 c (j.val + 1))) -∗ WP c k Φ))
      ⊢ WP c (Prog.lift (.load partM (slotRect j).toLoadRect hl) >>= fun _ => Prog.lift (.store partM (slotRect j) w Finset.univ hx hm) >>= fun _ =>
          have jp : PUnit.{1} → P F α := fun _ =>
            have jp' : PUnit.{1} → P F α := fun _ => k
            if h : b' = 1#1 then
              (Prog.lift (.load partM (slotRect j).toLoadRect (hl1 h)) >>= fun v => Prog.lift (.load p1M (slotRect j).toLoadRect (hl2 h)) >>= fun _ =>
                Prog.lift (.store p1M (slotRect j) (pay v) Finset.univ (hx' h) (hm' h)) >>= fun _ => jp' ⟨⟩)
            else jp' ⟨⟩
          if h : b = 1#1 then
            (Prog.lift (.enqueueDma src (.remote (dev h : Thread nD τ) (dst h) (.dma (ss h)) (hsc h)) (.dma (rs h)) (hws h) (hwd h) (hsem h)) >>= fun _ => jp ⟨⟩)
          else jp ⟨⟩) Φ := by
  subst hw
  iintro ⟨#HR, ⟨H, P, HO⟩, Hk⟩
  iapply (step_put partM c j)
  isplitl [H]; · iexact H
  iintro H
  iapply (step_send1 m ρ K c j b hb src hsrc dev hdev dst hdst ss hss rs hrs O)
  isplitr; · iexact HR
  isplitl [H P HO]
  · isplitl [H]; · iexact H
    isplitl [P]; · iexact P
    iexact HO
  iintro ⟨H, HO⟩
  iapply (step_own1 m ρ c j b' hb' pay hpay)
  isplitl [H]; · iexact H
  iintro H
  iapply Hk
  isplitl [H]; · iexact H
  iexact HO

theorem payload_send1 (c j : Dev nD) : payloadOf m ρ c j (some (some (0, j))) = own c (slotM partM j) (partV m ρ c j) := rfl
theorem payload_recv1 (c j : Dev nD) : payloadOf m ρ c j (some (some (1, j))) = own c (slotM p1M j) (partV m ρ j c) := rfl
theorem payload_send2 (c j : Dev nD) : payloadOf m ρ c j (some (some (2, j))) = srcShare m ρ c j := rfl
theorem payload_recv2 (c j : Dev nD) : payloadOf m ρ c j (some (some (3, j))) = own c (slotM p2M j) (srcF m ρ j) := rfl

/-- The receipt of device `j`'s block. -/
theorem step_wait1 (c j : Dev nD) (b : BitVec 1) (hb : b = 1#1 ↔ j ≠ c) {sh sh' : Shape} {e e' : EltTy} (sm : DmaSem sig) (hsm : sm = dsem 1 j)
    (src : Memref sig .tc .vmem sh e) (dst : Memref sig .tc .vmem sh' e') (hN : dst.view.dmaCredit = N) (O : CellTallies nD τ sig Unit) (hO : Above 2 O)
    {h1 : b = 1#1 → src.view.WordExact} {h2 : b = 1#1 → dst.view.WordExact} {α : Type} {k : P F α} {Φ : α → sProp 𝕄} :
    iprop(recs m ρ K ∗ (Done1 m ρ c j ∗ Wt F 1 c j ∗ ow F c O)
        ∗ ((Left1 m ρ c j ∗ own c (slotM p1M j) (partV m ρ j c) ∗ clr F 1 c j ∗ ow F c O) -∗ WP c k Φ))
      ⊢ WP c (if h : b = 1#1 then (Prog.lift (.waitDma2 sm src dst (h1 h) (h2 h)) >>= fun _ => k) else k) Φ := by
  subst hsm
  unfold Done1 Left1 Wt
  by_cases h : j = c
  · rw [dif_neg (fun e => hb.mp e h), if_pos h, if_pos h, if_pos h]
    iintro ⟨#HR, ⟨⟨Hp, H1⟩, ⟨Hat, -⟩, HO⟩, Hk⟩
    imod (close_self m ρ K c j h 1) $$ [Hat] with Hz
    · isplitr; · iexact HR
      iexact Hat
    iapply Hk
    isplitl [Hp]; · iexact Hp
    isplitl [H1]; · iexact H1
    isplitl [Hz] <;> iassumption
  · rw [dif_pos (hb.mpr h), if_neg h, if_neg h, if_neg h]
    iintro ⟨HR, ⟨Hc, ⟨Hat, Hw⟩, HO⟩, Hk⟩
    iapply (wait_at m ρ K c j h 1 src dst hN O hO)
    isplitl [HR]; · iexact HR
    isplitl [Hat Hw HO]
    · isplitl [Hat]; · iexact Hat
      isplitl [Hw] <;> iassumption
    iintro ⟨Hz, H1, HO⟩
    ihave H1 := (Entails.of_eq (payload_recv1 m ρ c j)) $$ H1
    iapply Hk
    isplitl [Hc]; · iexact Hc
    isplitl [H1]; · iexact H1
    isplitl [Hz] <;> iassumption

/-! ## The second exchange -/

def Pre2 (F : FTy → Type) (c j : Dev nD) : sProp (MT nD τ sig Unit (Elt F) ℕ UU ℕ) :=
  iprop(ownAny F j (slotM p2M c) ∗ if j = c then emp else iprop(dutyTok ER (dCell 2 c j) 0 j ∗ dutyTok ER (dCell 3 j c) 0 c))
def Mid2 (c j : Dev nD) : sProp 𝕄 :=
  if j = c then iprop(srcShare m ρ c j ∗ ownAny F c (slotM p2M j)) else crd F 2 c j

theorem step_send2 (c j : Dev nD) (b : BitVec 1) (hb : b = 1#1 ↔ j ≠ c)
    (dev : b = 1#1 → Dev nD) (hdev : ∀ h, dev h = j) (dst : b = 1#1 → Memref sig .tc .vmem S256x256 .bf16) (hdst : ∀ h, dst h = slotM p2M c)
    (ss : b = 1#1 → DmaSem sig) (hss : ∀ h, ss h = dsem 2 j) (rs : b = 1#1 → DmaSem sig) (hrs : ∀ h, rs h = dsem 3 c) (O : CellTallies nD τ sig Unit)
    {hsc : ∀ h, (dst h).view.ref.isScScratch = false} {hws : b = 1#1 → srcM.view.WordExact} {hwd : ∀ h, (dst h).view.WordExact}
    {hsem : ∀ h, DmaTarget.Typed .vmem (.dma (rs h)) (.remote (dev h : Thread nD τ) (dst h) (.dma (ss h)) (hsc h))} {α : Type} {k : P F α} {Φ : α → sProp 𝕄} :
    iprop(recs m ρ K ∗ (srcShare m ρ c j ∗ Pre2 F c j ∗ ow F c (O + owedD 3 c j.val))
        ∗ ((Mid2 m ρ c j ∗ ow F c (O + owedD 3 c (j.val + 1))) -∗ WP c k Φ))
      ⊢ WP c (if h : b = 1#1 then
          (Prog.lift (.enqueueDma srcM (.remote (dev h : Thread nD τ) (dst h) (.dma (ss h)) (hsc h)) (.dma (rs h)) (hws h) (hwd h) (hsem h)) >>= fun _ => k)
        else k) Φ := by
  unfold Pre2 Mid2
  by_cases h : j = c
  · rw [dif_neg (fun e => hb.mp e h), if_pos h, if_pos h, ← owedD_self 3 c h]
    iintro ⟨-, ⟨Hp, ⟨H1, -⟩, HO⟩, Hk⟩
    iapply Hk
    isplitr [HO]
    · isplitl [Hp]; · iexact Hp
      subst h; iexact H1
    iexact HO
  · have hb' := hb.mpr h
    rw [dif_pos hb', if_neg h, if_neg h, owedD_step 3 c h, ← add_assoc]
    generalize hsc hb' = a1
    generalize hwd hb' = a2
    generalize hsem hb' = a3
    revert a1 a2 a3
    rw [hdev hb', hdst hb', hss hb', hrs hb']
    intro a1 a2 a3
    unfold srcShare
    iintro ⟨HR, ⟨Hp, ⟨H1, Ht⟩, HO⟩, Hk⟩
    iapply (send_to m ρ K c j h 2 3 srcM (slotM p2M c) (eighth j) (srcF m ρ c) rfl (O + owedD 3 c (j.val + 1)) Entails.rfl Entails.rfl)
    isplitl [HR]; · iexact HR
    icases Ht with ⟨Ht1, Ht2⟩
    isplitr [Hk]
    · isplitl [Hp]; · iexact Hp
      isplitl [H1]; · iexact H1
      isplitl [HO]; · iexact HO
      isplitl [Ht1] <;> iassumption
    iintro ⟨Hc, HO⟩
    iapply Hk
    isplitl [Hc] <;> iassumption

/-- Block `j` of the result. -/
abbrev blkM (j : Dev nD) : Memref sig .tc .vmem S1x256x256 .f32 := outM.slice (outRect j) (fun _ => rfl)

theorem step_load_blk (c j : Dev nD) (X : Vec F S1x256x256 .f32) {hl : outM.view.LoadsAt (outRect j).toLoadRect} {α : Type} {k : Vec F S1x256x256 .f32 → P F α} {Φ : α → sProp 𝕄} :
    iprop(own c (blkM j) X ∗ (own c (blkM j) X -∗ WP c (k X) Φ)) ⊢ WP c (Prog.lift (.load outM (outRect j).toLoadRect hl) >>= k) Φ := by
  unfold own owns
  iintro ⟨⟨%f, %hf, H⟩, Hk⟩
  subst hf
  iapply (wp_load_rect 𝒱₀ (c : Thread nD τ) none Set.univ (m := outM) (r := outRect j)
    (S := (blkM j).view.set) (q := fullShare) (f := f) (le_of_eq rfl)) $$ H
  iintro H
  iapply Hk
  iexists f
  isplitr; · ipureintro; rfl
  iexact H

theorem step_store_blk (c j : Dev nD) (w : Vec F S1x256x256 .f32) {hx : (outM.access (outRect j)).Stores Finset.univ}
    {hm : Finset.univ = Finset.univ ∨ ∀ a, (outRect j).stride a = 1} {α : Type} {k : PUnit → P F α} {Φ : α → sProp 𝕄} :
    iprop(ownAny F c (blkM j) ∗ (own c (blkM j) w -∗ WP c (k ⟨⟩) Φ)) ⊢ WP c (Prog.lift (.store outM (outRect j) w Finset.univ hx hm) >>= k) Φ := by
  unfold ownAny own owns
  iintro ⟨⟨%X, %f, %hf, H⟩, Hk⟩
  iapply (wp_store 𝒱₀ (c : Thread nD τ) none Set.univ (m := outM) (r := outRect j) (Mk := Finset.univ)
    (S := (blkM j).view.set) (f := f) (le_of_eq rfl)) $$ H
  iintro H
  iapply Hk
  iexists _
  isplitr [H]
  rotate_left
  · iexact H
  ipureintro
  exact View.read_write_univ (v := outM.access (outRect j)) f w

/-- A load of a whole buffer. -/
theorem step_load_all (c : Dev nD) {s : Shape} {e : EltTy} (M : Memref sig .tc .vmem s e) (X : s.Idx → Elt F e) {r : LoadRect s}
    (Y : r.shape.Idx → Elt F e) (hY : ∀ f, M.view.read (Elt F) f = X → M.view.readAt (Elt F) r f = Y)
    {hl : M.view.LoadsAt r} {α : Type} {k : (r.shape.Idx → Elt F e) → P F α} {Φ : α → sProp 𝕄} :
    iprop(own c M X ∗ (own c M X -∗ WP c (k Y) Φ)) ⊢ WP c (Prog.lift (.load M r hl) >>= k) Φ := by
  unfold own owns
  iintro ⟨⟨%f, %hf, H⟩, Hk⟩
  rw [← hY f hf]
  iapply (wp_load 𝒱₀ (c : Thread nD τ) none Set.univ (m := M) (r := r)
    (S := M.view.set) (q := fullShare) (f := f) (View.setOn_subset_set _ _)) $$ H
  iintro H
  iapply Hk
  iexists f
  isplitr; · ipureintro; exact hf
  iexact H

/-- A store to a whole buffer. -/
theorem step_store_all (c : Dev nD) {s : Shape} {e : EltTy} (M : Memref sig .tc .vmem s e) {r : Rect s} (w : r.shape.Idx → Elt F e)
    (Y : s.Idx → Elt F e) (hY : ∀ f, M.view.read (Elt F) ((M.access r).write (Elt F) f w Finset.univ) = Y)
    {hx : (M.access r).Stores Finset.univ} {hm : Finset.univ = Finset.univ ∨ ∀ a, r.stride a = 1} {α : Type} {k : PUnit → P F α} {Φ : α → sProp 𝕄} :
    iprop(ownAny F c M ∗ (own c M Y -∗ WP c (k ⟨⟩) Φ)) ⊢ WP c (Prog.lift (.store M r w Finset.univ hx hm) >>= k) Φ := by
  unfold ownAny own owns
  iintro ⟨⟨%X, %f, %hf, H⟩, Hk⟩
  iapply (wp_store 𝒱₀ (c : Thread nD τ) none Set.univ (m := M) (r := r) (Mk := Finset.univ)
    (S := M.view.set) (f := f) ((View.setOn_subset_set _ _).trans (View.set_slice_subset _ _))) $$ H
  iintro H
  iapply Hk
  iexists _
  isplitr [H]
  rotate_left
  · iexact H
  ipureintro
  exact hY f

/-- A store into a whole buffer, after a load of it that nothing reads. -/
theorem step_put_all (c : Dev nD) {s : Shape} {e : EltTy} (M : Memref sig .tc .vmem s e) {r : Rect s} (w : r.shape.Idx → Elt F e)
    (Y : s.Idx → Elt F e) (hY : ∀ f, M.view.read (Elt F) ((M.access r).write (Elt F) f w Finset.univ) = Y)
    {hl : M.view.LoadsAt r.toLoadRect} {hx : (M.access r).Stores Finset.univ} {hm : Finset.univ = Finset.univ ∨ ∀ a, r.stride a = 1}
    {α : Type} {k : PUnit → P F α} {Φ : α → sProp 𝕄} :
    iprop(ownAny F c M ∗ (own c M Y -∗ WP c (k ⟨⟩) Φ))
      ⊢ WP c (Prog.lift (.load M r.toLoadRect hl) >>= fun _ => Prog.lift (.store M r w Finset.univ hx hm) >>= k) Φ := by
  iintro ⟨⟨%X, H⟩, Hk⟩
  unfold own owns
  icases H with ⟨%f, %hf, H⟩
  iapply (wp_load 𝒱₀ (c : Thread nD τ) none Set.univ (m := M) (r := r.toLoadRect)
    (S := M.view.set) (q := fullShare) (f := f) (View.setOn_subset_set _ _)) $$ H
  iintro H
  iapply (step_store_all c M w Y hY)
  unfold ownAny own owns
  isplitl [H]
  · iexists X, f
    isplitr; · ipureintro; exact hf
    iexact H
  iexact Hk

theorem zero2 : (![0, 0] : Fin 2 → Nat) = fun _ => 0 := by decide
theorem zero3 : (![0, 0, 0] : Fin 3 → Nat) = fun _ => 0 := by decide

/-- What device `c` holds of block `j` of the result once another device's sum has come. -/
def Rcv (c j : Dev nD) : sProp 𝕄 :=
  if j = c then ownAny F c (blkM j) else iprop(own c (blkM j) (outB m ρ c j) ∗ ownAny F c (slotM p2M j))
/-- The same once the own sum is stored too. -/
def Fin3 (c j : Dev nD) : sProp 𝕄 :=
  iprop(own c (blkM j) (outB m ρ c j) ∗ if j = c then emp else ownAny F c (slotM p2M j))

theorem step_recv2 (c j : Dev nD) (b : BitVec 1) (hb : b = 1#1 ↔ j ≠ c) {sh sh' : Shape} {e e' : EltTy} (sm : DmaSem sig) (hsm : sm = dsem 3 j)
    (src : Memref sig .tc .vmem sh e) (dst : Memref sig .tc .vmem sh' e') (hN : dst.view.dmaCredit = N)
    (pay : Vec F S1x256x256 .bf16 → Vec F S1x256x256 .f32) (hpay : ∀ v, pay v = k0_pay28 v)
    {h1 : b = 1#1 → src.view.WordExact} {h2 : b = 1#1 → dst.view.WordExact}
    {hl1 : b = 1#1 → p2M.view.LoadsAt (slotRect j).toLoadRect} {hl2 : b = 1#1 → outM.view.LoadsAt (outRect j).toLoadRect}
    {hx : b = 1#1 → (outM.access (outRect j)).Stores Finset.univ} {hm : b = 1#1 → (Finset.univ = Finset.univ ∨ ∀ a, (outRect j).stride a = 1)}
    {α : Type} {k : P F α} {Φ : α → sProp 𝕄} :
    iprop(recs m ρ K ∗ (Wt F 3 c j ∗ ownAny F c (blkM j) ∗ ow F c 0) ∗ ((Rcv m ρ c j ∗ clr F 3 c j ∗ ow F c 0) -∗ WP c k Φ))
      ⊢ WP c (if h : b = 1#1 then
          (Prog.lift (.waitDma2 sm src dst (h1 h) (h2 h)) >>= fun _ => Prog.lift (.load p2M (slotRect j).toLoadRect (hl1 h)) >>= fun v =>
            Prog.lift (.load outM (outRect j).toLoadRect (hl2 h)) >>= fun _ =>
            Prog.lift (.store outM (outRect j) (pay v) Finset.univ (hx h) (hm h)) >>= fun _ => k)
        else k) Φ := by
  subst hsm
  unfold Wt Rcv
  by_cases h : j = c
  · rw [dif_neg (fun e => hb.mp e h), if_pos h, if_pos h]
    iintro ⟨#HR, ⟨⟨Hat, -⟩, Hb, HO⟩, Hk⟩
    imod (close_self m ρ K c j h 3) $$ [Hat] with Hz
    · isplitr; · iexact HR
      iexact Hat
    iapply Hk
    isplitl [Hb]; · iexact Hb
    isplitl [Hz] <;> iassumption
  · rw [dif_pos (hb.mpr h), if_neg h, if_neg h]
    iintro ⟨HR, ⟨⟨Hat, Hw⟩, ⟨%Y, Hb⟩, HO⟩, Hk⟩
    iapply (wait_at m ρ K c j h 3 src dst hN 0 (above_zero _))
    isplitl [HR]; · iexact HR
    isplitl [Hat Hw HO]
    · isplitl [Hat]; · iexact Hat
      isplitl [Hw] <;> iassumption
    iintro ⟨Hz, H1, HO⟩
    ihave H1 := (Entails.of_eq (payload_recv2 m ρ c j)) $$ H1
    iapply (step_load_slot p2M c j fullShare (srcF m ρ j))
    isplitl [H1]; · iexact H1
    iintro H1
    iapply (step_load_blk c j Y)
    isplitl [Hb]; · iexact Hb
    iintro Hb
    rw [hpay]
    iapply (step_store_blk c j)
    isplitl [Hb]; · iexists Y; iexact Hb
    iintro Hb
    iapply Hk
    isplitr [Hz HO]
    · isplitl [Hb]
      · unfold outB; rw [if_neg h]; iexact Hb
      iexists _; iexact H1
    isplitl [Hz] <;> iassumption

theorem step_own2 (c j : Dev nD) (b : BitVec 1) (hb : b = 1#1 ↔ j = c) (pay : Vec F S256x256 .f32 → Vec F S1x256x256 .f32) (hpay : ∀ v, pay v = k0_pay29 v)
    {h0 : ∀ a, (![0, 0] : Fin 2 → Nat) a + S256x256.size a ≤ S256x256.size a}
    {hl1 : b = 1#1 → redM.view.LoadsAt (Rect.unit (s := S256x256) ![0, 0] S256x256.size h0).toLoadRect} {hl2 : b = 1#1 → outM.view.LoadsAt (outRect j).toLoadRect}
    {hx : b = 1#1 → (outM.access (outRect j)).Stores Finset.univ} {hm : b = 1#1 → (Finset.univ = Finset.univ ∨ ∀ a, (outRect j).stride a = 1)}
    {α : Type} {k : P F α} {Φ : α → sProp 𝕄} :
    iprop((own c redM (redF m ρ c) ∗ Rcv m ρ c j) ∗ ((own c redM (redF m ρ c) ∗ Fin3 m ρ c j) -∗ WP c k Φ))
      ⊢ WP c (if h : b = 1#1 then
          (Prog.lift (.load redM (Rect.unit (s := S256x256) ![0, 0] S256x256.size h0).toLoadRect (hl1 h)) >>= fun v =>
            Prog.lift (.load outM (outRect j).toLoadRect (hl2 h)) >>= fun _ =>
            Prog.lift (.store outM (outRect j) (pay v) Finset.univ (hx h) (hm h)) >>= fun _ => k)
        else k) Φ := by
  unfold Rcv Fin3
  by_cases h : j = c
  · rw [dif_pos (hb.mpr h), if_pos h, if_pos h]
    iintro ⟨⟨Hr, ⟨%Y, Hb⟩⟩, Hk⟩
    iapply (step_load_all c redM (redF m ρ c) (redF m ρ c) (fun f hf => (Memref.readAt_unit_zero (Elt F) cc0_scratch1 zero2 h0 f).trans (show f = redF m ρ c from hf)))
    isplitl [Hr]; · iexact Hr
    iintro Hr
    iapply (step_load_blk c j Y)
    isplitl [Hb]; · iexact Hb
    iintro Hb
    rw [hpay]
    iapply (step_store_blk c j)
    isplitl [Hb]; · iexists Y; iexact Hb
    iintro Hb
    iapply Hk
    isplitl [Hr]; · iexact Hr
    isplitl [Hb]
    · unfold outB; rw [if_pos h]; iexact Hb
    iempintro
  · rw [dif_neg (fun e => h (hb.mp e)), if_neg h, if_neg h]
    iintro ⟨H, Hk⟩
    iapply Hk; iexact H

/-! ## Collecting the sends -/

/-- The whole of the second exchange's receiving for block `j`: the sum of device `j` received and stored, or the own one
    stored. -/
theorem step_block2 (c j : Dev nD) (b : BitVec 1) (hb : b = 1#1 ↔ j ≠ c) {sh sh' : Shape} {e e' : EltTy} (sm : DmaSem sig) (hsm : sm = dsem 3 j)
    (src : Memref sig .tc .vmem sh e) (dst : Memref sig .tc .vmem sh' e') (hN : dst.view.dmaCredit = N)
    (pay : Vec F S1x256x256 .bf16 → Vec F S1x256x256 .f32) (hpay : ∀ v, pay v = k0_pay28 v)
    (b' : BitVec 1) (hb' : b' = 1#1 ↔ j = c) (pay' : Vec F S256x256 .f32 → Vec F S1x256x256 .f32) (hpay' : ∀ v, pay' v = k0_pay29 v)
    {h1 : b = 1#1 → src.view.WordExact} {h2 : b = 1#1 → dst.view.WordExact}
    {hl1 : b = 1#1 → p2M.view.LoadsAt (slotRect j).toLoadRect} {hl2 : b = 1#1 → outM.view.LoadsAt (outRect j).toLoadRect}
    {hx : b = 1#1 → (outM.access (outRect j)).Stores Finset.univ} {hm : b = 1#1 → (Finset.univ = Finset.univ ∨ ∀ a, (outRect j).stride a = 1)}
    {h0 : ∀ a, (![0, 0] : Fin 2 → Nat) a + S256x256.size a ≤ S256x256.size a}
    {hl1' : b' = 1#1 → redM.view.LoadsAt (Rect.unit (s := S256x256) ![0, 0] S256x256.size h0).toLoadRect} {hl2' : b' = 1#1 → outM.view.LoadsAt (outRect j).toLoadRect}
    {hx' : b' = 1#1 → (outM.access (outRect j)).Stores Finset.univ} {hm' : b' = 1#1 → (Finset.univ = Finset.univ ∨ ∀ a, (outRect j).stride a = 1)}
    {α : Type} {k : P F α} {Φ : α → sProp 𝕄} :
    iprop(recs m ρ K ∗ (Wt F 3 c j ∗ ownAny F c (blkM j) ∗ own c redM (redF m ρ c) ∗ ow F c 0)
        ∗ ((Fin3 m ρ c j ∗ clr F 3 c j ∗ own c redM (redF m ρ c) ∗ ow F c 0) -∗ WP c k Φ))
      ⊢ WP c (have jp : PUnit.{1} → P F α := fun _ =>
            have jp' : PUnit.{1} → P F α := fun _ => k
            if h : b' = 1#1 then
              (Prog.lift (.load redM (Rect.unit (s := S256x256) ![0, 0] S256x256.size h0).toLoadRect (hl1' h)) >>= fun v =>
                Prog.lift (.load outM (outRect j).toLoadRect (hl2' h)) >>= fun _ =>
                Prog.lift (.store outM (outRect j) (pay' v) Finset.univ (hx' h) (hm' h)) >>= fun _ => jp' ⟨⟩)
            else jp' ⟨⟩
          if h : b = 1#1 then
            (Prog.lift (.waitDma2 sm src dst (h1 h) (h2 h)) >>= fun _ => Prog.lift (.load p2M (slotRect j).toLoadRect (hl1 h)) >>= fun v =>
              Prog.lift (.load outM (outRect j).toLoadRect (hl2 h)) >>= fun _ =>
              Prog.lift (.store outM (outRect j) (pay v) Finset.univ (hx h) (hm h)) >>= fun _ => jp ⟨⟩)
          else jp ⟨⟩) Φ := by
  iintro ⟨#HR, ⟨W, B, R, HO⟩, Hk⟩
  iapply (step_recv2 m ρ K c j b hb sm hsm src dst hN pay hpay)
  iframe HR W B HO
  iintro ⟨B, C, HO⟩
  iapply (step_own2 m ρ c j b' hb' pay' hpay')
  iframe R B
  iintro ⟨R, B⟩
  iapply Hk
  iframe B C R HO

def Fin0 (c j : Dev nD) : sProp 𝕄 :=
  iprop(own c (slotM partM j) (partV m ρ c j) ∗ srcShare m ρ c j ∗ if j = c then ownAny F c (slotM p2M j) else emp)

theorem step_collect (c j : Dev nD) (b : BitVec 1) (hb : b = 1#1 ↔ j ≠ c) {sh sh' sh2 sh2' : Shape} {e e' e2 e2' : EltTy}
    (sm : DmaSem sig) (hsm : sm = dsem 0 j) (src : Memref sig .tc .vmem sh e) (dst : Memref sig .tc .vmem sh' e') (hN : dst.view.dmaCredit = N)
    (sm2 : DmaSem sig) (hsm2 : sm2 = dsem 2 j) (src2 : Memref sig .tc .vmem sh2 e2) (dst2 : Memref sig .tc .vmem sh2' e2') (hN2 : dst2.view.dmaCredit = N)
    {h1 : b = 1#1 → src.view.WordExact} {h2 : b = 1#1 → dst.view.WordExact}
    {h3 : b = 1#1 → src2.view.WordExact} {h4 : b = 1#1 → dst2.view.WordExact} {α : Type} {k : P F α} {Φ : α → sProp 𝕄} :
    iprop(recs m ρ K ∗ (Left1 m ρ c j ∗ Mid2 m ρ c j ∗ pos F 0 c j ∗ pos F 2 c j ∗ ow F c 0)
        ∗ ((Fin0 m ρ c j ∗ clr F 0 c j ∗ clr F 2 c j ∗ ow F c 0) -∗ WP c k Φ))
      ⊢ WP c (if h : b = 1#1 then
          (Prog.lift (.waitDma2 sm src dst (h1 h) (h2 h)) >>= fun _ => Prog.lift (.waitDma2 sm2 src2 dst2 (h3 h) (h4 h)) >>= fun _ => k)
        else k) Φ := by
  subst hsm hsm2
  unfold Left1 Mid2 Fin0
  by_cases h : j = c
  · rw [dif_neg (fun e => hb.mp e h), if_pos h, if_pos h, if_pos h]
    iintro ⟨#HR, ⟨Hp, ⟨Hs, H2⟩, Hat0, Hat2, HO⟩, Hk⟩
    imod (close_self m ρ K c j h 0) $$ [Hat0] with Hz0
    · isplitr; · iexact HR
      iexact Hat0
    imod (close_self m ρ K c j h 2) $$ [Hat2] with Hz2
    · isplitr; · iexact HR
      iexact Hat2
    iapply Hk
    isplitl [Hp Hs H2]
    · isplitl [Hp]; · iexact Hp
      isplitl [Hs] <;> iassumption
    isplitl [Hz0]; · iexact Hz0
    isplitl [Hz2] <;> iassumption
  · rw [dif_pos (hb.mpr h), if_neg h, if_neg h, if_neg h]
    iintro ⟨#HR, ⟨Hc0, Hc2, Hat0, Hat2, HO⟩, Hk⟩
    iapply (wait_at m ρ K c j h 0 src dst hN 0 (above_zero _))
    isplitr; · iexact HR
    isplitl [Hat0 Hc0 HO]
    · isplitl [Hat0]; · iexact Hat0
      isplitl [Hc0] <;> iassumption
    iintro ⟨Hz0, Hp, HO⟩
    ihave Hp := (Entails.of_eq (payload_send1 m ρ c j)) $$ Hp
    iapply (wait_at m ρ K c j h 2 src2 dst2 hN2 0 (above_zero _))
    isplitr; · iexact HR
    isplitl [Hat2 Hc2 HO]
    · isplitl [Hat2]; · iexact Hat2
      isplitl [Hc2] <;> iassumption
    iintro ⟨Hz2, Hs, HO⟩
    ihave Hs := (Entails.of_eq (payload_send2 m ρ c j)) $$ Hs
    iapply Hk
    isplitl [Hp Hs]
    · isplitl [Hp]; · iexact Hp
      isplitl [Hs]; · iexact Hs
      iempintro
    isplitl [Hz0]; · iexact Hz0
    isplitl [Hz2] <;> iassumption

end Cert.KernelIdealRun

end
-- ==== Proof.KernelIdealRun.Facts.lean ====
/-
# The printed offsets, entries and conditions

The printed body names the slots, the semaphore entries, the peers and the conditions by words computed from the device;
here each is the slot, entry, peer or condition it stands for.
-/
module

public import proofs.«01_k».proof.Proof.KernelIdealRun.Steps

@[expose] public section

noncomputable section

namespace Cert.KernelIdealRun

open Cert.KernelIdeal Cert.KernelIdeal.Gen

open Idealize.ShloMosaic
open Idealize.ShloMosaic.TcCoe

/-- A slot of a buffer, at an offset that is the slot's. -/
theorem slot_eq (M : Memref sig .tc .vmem S8x256x256 .bf16) (k : Dev nD) {off : Fin 3 → Nat} (h : off = ![k.val, 0, 0])
    {inb : ∀ a, off a + S1x256x256.size a ≤ S8x256x256.size a} {hs} :
    (M.slice (Rect.unit (s := S8x256x256) off S1x256x256.size inb) hs).squeeze S256x256 squeezes_S1x256x256_S256x256 = slotM M k := by
  subst h; rfl

/-! An entry of each of the four semaphore arrays, at an offset that is the entry's. -/

theorem entry0 (k : Dev nD) {off : Fin 1 → Nat} (h : off = ![k.val]) {inb : ∀ a, off a + S1.size a ≤ S8.size a} :
    (((cc0_scratch5 : DmaSems sig S8).slice (Rect.unit (s := S8) off S1.size inb)).squeeze S_ squeezes_S1_S_).sem = dsem 0 k := by
  subst h; revert inb; revert k; decide
theorem entry1 (k : Dev nD) {off : Fin 1 → Nat} (h : off = ![k.val]) {inb : ∀ a, off a + S1.size a ≤ S8.size a} :
    (((cc0_scratch6 : DmaSems sig S8).slice (Rect.unit (s := S8) off S1.size inb)).squeeze S_ squeezes_S1_S_).sem = dsem 1 k := by
  subst h; revert inb; revert k; decide
theorem entry2 (k : Dev nD) {off : Fin 1 → Nat} (h : off = ![k.val]) {inb : ∀ a, off a + S1.size a ≤ S8.size a} :
    (((cc0_scratch7 : DmaSems sig S8).slice (Rect.unit (s := S8) off S1.size inb)).squeeze S_ squeezes_S1_S_).sem = dsem 2 k := by
  subst h; revert inb; revert k; decide
theorem entry3 (k : Dev nD) {off : Fin 1 → Nat} (h : off = ![k.val]) {inb : ∀ a, off a + S1.size a ≤ S8.size a} :
    (((cc0_scratch8 : DmaSems sig S8).slice (Rect.unit (s := S8) off S1.size inb)).squeeze S_ squeezes_S1_S_).sem = dsem 3 k := by
  subst h; revert inb; revert k; decide

/-- The device's number as the body computes it. -/
theorem my_word (c : Dev nD) : Scalar.remsi (Scalar.divsi (Dev.word c) 1#32) 8#32 = BitVec.ofNat 32 c.val := by revert c; decide

/-- The condition "this is the own block", and "this is another device's". -/
theorem own_cond (c j : Dev nD) :
    Scalar.cmpi .ne (Scalar.extui (Scalar.cmpi .eq (BitVec.ofNat 32 c.val) (BitVec.ofNat 32 j.val)) : BitVec 32) 0#32 = 1#1 ↔ j = c := by
  revert c j; decide
theorem other_cond (c j : Dev nD) :
    Scalar.cmpi .ne (Scalar.extui (Scalar.cmpi .ne (BitVec.ofNat 32 c.val) (BitVec.ofNat 32 j.val)) : BitVec 32) 0#32 = 1#1 ↔ j ≠ c := by
  revert c j; decide

/-! The conditions of the sixteen sends. -/

theorem cond1 (c : Dev nD) : k0_cond1 c = 1#1 ↔ (0 : Dev nD) ≠ c := by revert c; decide
theorem cond3 (c : Dev nD) : k0_cond3 c = 1#1 ↔ (1 : Dev nD) ≠ c := by revert c; decide
theorem cond5 (c : Dev nD) : k0_cond5 c = 1#1 ↔ (2 : Dev nD) ≠ c := by revert c; decide
theorem cond7 (c : Dev nD) : k0_cond7 c = 1#1 ↔ (3 : Dev nD) ≠ c := by revert c; decide
theorem cond9 (c : Dev nD) : k0_cond9 c = 1#1 ↔ (4 : Dev nD) ≠ c := by revert c; decide
theorem cond11 (c : Dev nD) : k0_cond11 c = 1#1 ↔ (5 : Dev nD) ≠ c := by revert c; decide
theorem cond13 (c : Dev nD) : k0_cond13 c = 1#1 ↔ (6 : Dev nD) ≠ c := by revert c; decide
theorem cond15 (c : Dev nD) : k0_cond15 c = 1#1 ↔ (7 : Dev nD) ≠ c := by revert c; decide
theorem cond25 (c : Dev nD) : k0_cond25 c = 1#1 ↔ (0 : Dev nD) ≠ c := by revert c; decide
theorem cond26 (c : Dev nD) : k0_cond26 c = 1#1 ↔ (1 : Dev nD) ≠ c := by revert c; decide
theorem cond27 (c : Dev nD) : k0_cond27 c = 1#1 ↔ (2 : Dev nD) ≠ c := by revert c; decide
theorem cond28 (c : Dev nD) : k0_cond28 c = 1#1 ↔ (3 : Dev nD) ≠ c := by revert c; decide
theorem cond29 (c : Dev nD) : k0_cond29 c = 1#1 ↔ (4 : Dev nD) ≠ c := by revert c; decide
theorem cond30 (c : Dev nD) : k0_cond30 c = 1#1 ↔ (5 : Dev nD) ≠ c := by revert c; decide
theorem cond31 (c : Dev nD) : k0_cond31 c = 1#1 ↔ (6 : Dev nD) ≠ c := by revert c; decide
theorem cond32 (c : Dev nD) : k0_cond32 c = 1#1 ↔ (7 : Dev nD) ≠ c := by revert c; decide

/-- A peer counted on from the device. -/
theorem peer_eq (c : Dev nD) (r : ℕ) {n : ℕ} (h : n = (c.val + r) % 8) {hlt : n < nD} : (⟨n, hlt⟩ : Dev nD) = rot c r := Fin.ext h

/-- A peer by its number. -/
theorem dev_eq (j : Dev nD) {n : ℕ} (h : n = j.val) {hlt : n < nD} : (⟨n, hlt⟩ : Dev nD) = j := Fin.ext h

end Cert.KernelIdealRun

end
-- ==== Proof.KernelIdealRun.Blocks.lean ====
/-
# Buffers cut into blocks, and put together again
-/
module

public import proofs.«01_k».proof.Proof.KernelIdealRun.Facts
public import Idealize.ShloMosaic.Lib.ShareLeaves
public import Idealize.ShloMosaic.Lib.ViewIndex
public import Idealize.ShloMosaic.Lib.ValueLayout

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- A family over the eight devices, one by one. -/
theorem eight (Φ : Dev nD → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem any_of_pts {s : Shape} {e : EltTy} (M : Memref sig .tc .vmem s e) (c : Dev nD) (f : Buf (Elt F) (M.view.loc (c : Thread nD τ))) :
    ((M.view.loc (c : Thread nD τ)) ↦[M.view.set]{fullShare} f : sProp 𝕄) ⊢ ownAny F c M := by
  unfold ownAny owns
  iintro H
  iexists _, f
  isplitr; · ipureintro; rfl
  iexact H

section cut

variable {s : Shape} {e : EltTy} (M : Memref sig .tc .vmem s e) (r : Dev nD → Rect s) (hs : ∀ k a, (r k).stride a = 1)

theorem slices_disjoint (hd : ∀ k k', k ≠ k' → Disjoint (r k).set (r k').set) :
    ∀ k ∈ (Finset.univ : Finset (Dev nD)), ∀ k' ∈ (Finset.univ : Finset (Dev nD)), k ≠ k' →
      Disjoint (M.slice (r k) (hs k)).view.set (M.slice (r k') (hs k')).view.set :=
  fun k _ k' _ h => show Disjoint (M.view.slice (r k)).set (M.view.slice (r k')).set from View.disjoint_slice (hd k k' h)

theorem slices_cover (hc : ∀ i : s.Idx, ∃ k, ∃ x, (r k).emb x = i) :
    (Finset.univ : Finset (Dev nD)).biUnion (fun k => (M.slice (r k) (hs k)).view.set) = M.view.set := by
  apply Finset.Subset.antisymm
  · exact Finset.biUnion_subset.mpr fun k _ => View.set_slice_subset M.view (r k)
  · intro j hj
    obtain ⟨i, -, rfl⟩ := Finset.mem_map.mp hj
    obtain ⟨k, x, rfl⟩ := hc i
    exact Finset.mem_biUnion.mpr ⟨k, Finset.mem_univ _, Finset.mem_map.mpr ⟨x, Finset.mem_univ _, rfl⟩⟩

/-- A buffer is its blocks. -/
theorem cut_slices (hd : ∀ k k', k ≠ k' → Disjoint (r k).set (r k').set) (hc : ∀ i : s.Idx, ∃ k, ∃ x, (r k).emb x = i) (c : Dev nD) :
    (ownAny F c M : sProp 𝕄) ⊢ bigSep Finset.univ fun k => ownAny F c (M.slice (r k) (hs k)) := by
  have key : ∀ f : Buf (Elt F) (M.view.loc (c : Thread nD τ)),
      ((M.view.loc (c : Thread nD τ)) ↦[M.view.set]{fullShare} f : sProp 𝕄) ⊢ bigSep Finset.univ fun k => ownAny F c (M.slice (r k) (hs k)) := by
    intro f
    rw [← slices_cover M r hs hc, pointsTo_biUnion _ _ (slices_disjoint M r hs hd)]
    exact bigSep_mono fun k _ => any_of_pts (M.slice (r k) (hs k)) c f
  iintro ⟨%X, H⟩
  unfold owns
  icases H with ⟨%f, %hf, H⟩
  iapply (key f)
  iexact H

/-- The blocks, at their contents, are the buffer. -/
theorem join_slices (hd : ∀ k k', k ≠ k' → Disjoint (r k).set (r k').set) (hc : ∀ i : s.Idx, ∃ k, ∃ x, (r k).emb x = i)
    (X : ∀ k, (r k).shape.Idx → Elt F e) (Y : s.Idx → Elt F e) (hY : ∀ k x, Y ((r k).emb x) = X k x) (c : Dev nD) :
    (bigSep Finset.univ fun k => own c (M.slice (r k) (hs k)) (X k) : sProp 𝕄) ⊢ own c M Y := by
  unfold own owns
  refine (bigSep_exists_pi Finset.univ _).trans ?_
  iintro ⟨%fs, H⟩
  ihave ⟨%hf, H⟩ := (bigSep_pure_sep Finset.univ _ _) $$ H
  ihave ⟨%g, %hg, H⟩ := (pointsTo_biUnion_join (ℓ := M.view.loc (c : Thread nD τ)) (q := fullShare) (Val := Elt F) Finset.univ
    (fun k => (M.slice (r k) (hs k)).view.set) fs (fs 0) (slices_disjoint M r hs hd)) $$ H
  rw [slices_cover M r hs hc]
  iexists g
  isplitr
  · ipureintro
    funext i
    obtain ⟨k, x, rfl⟩ := hc i
    rw [hY, ← hf k (Finset.mem_univ _)]
    have := hg k (Finset.mem_univ _) (M.view.emb ((r k).emb x)) (Finset.mem_map.mpr ⟨x, Finset.mem_univ _, rfl⟩)
    show M.view.read (Elt F) g _ = M.view.read (Elt F) (fs k) ((r k).emb x)
    rw [View.read_apply, View.read_apply, this]
  iexact H

end cut

/-! ## The slots of a buffer of eight blocks -/

theorem slot_disjoint : ∀ k k' : Dev nD, k ≠ k' → Disjoint (slotRect k).set (slotRect k').set := fun k k' h =>
  Rect.unit_disjoint (0 : Fin 3) (by
    have hne : k.val ≠ k'.val := fun e => h (Fin.ext e)
    show k.val + 1 ≤ k'.val ∨ k'.val + 1 ≤ k.val
    omega)

/-- Index `(a, b)` of slot `k`. -/
theorem slot_emb (k : Dev nD) (x : S1x256x256.Idx) : (slotRect k).emb x = (ix3 k (x 1) (x 2) : S8x256x256.Idx) :=
  Shape.idx3_ext
    (by have h : (x 0).val < 1 := (x 0).isLt
        show k.val + 1 * (x 0).val = k.val; omega)
    (by show 0 + 1 * (x 1).val = (x 1).val; omega) (by show 0 + 1 * (x 2).val = (x 2).val; omega)

theorem slot_cover (i : S8x256x256.Idx) : ∃ k, ∃ x, (slotRect k).emb x = i :=
  ⟨i 0, (ix3 (0 : Fin 1) (i 1) (i 2) : S1x256x256.Idx), (slot_emb _ _).trans (Shape.idx3_ext rfl rfl rfl)⟩

section slots

variable (M : Memref sig .tc .vmem S8x256x256 .bf16)

theorem slot_slice (c k : Dev nD) (X : Vec F S256x256 .bf16) :
    (own c (slotM M k) X : sProp 𝕄) ⊢ own c (M.slice (slotRect k) (fun _ => rfl)) (shapeCast S1x256x256 X shapeCasts_S256x256_S1x256x256) := by
  unfold own owns
  iintro ⟨%f, %hf, H⟩
  iexists f
  isplitr
  · ipureintro
    rw [← hf, read_slot]
    exact (shapeCast_shapeCast _ shapeCasts_S1x256x256_S256x256 shapeCasts_S256x256_S1x256x256).symm
  rw [show (slotM M k).view.set = (M.slice (slotRect k) (fun _ => rfl)).view.set from View.set_reshape _ _]
  iexact H

theorem slice_slot (c k : Dev nD) : (ownAny F c (M.slice (slotRect k) (fun _ => rfl)) : sProp 𝕄) ⊢ ownAny F c (slotM M k) := by
  iintro ⟨%X, H⟩
  unfold owns
  icases H with ⟨%f, %hf, H⟩
  iapply (any_of_pts (slotM M k) c f)
  rw [show (slotM M k).view.set = (M.slice (slotRect k) (fun _ => rfl)).view.set from View.set_reshape _ _]
  iexact H

theorem cut_slots (c : Dev nD) : (ownAny F c M : sProp 𝕄) ⊢ bigSep Finset.univ fun k => ownAny F c (slotM M k) :=
  (cut_slices M slotRect (fun _ _ => rfl) slot_disjoint slot_cover c).trans (bigSep_mono fun k _ => slice_slot M c k)

theorem join_slots (c : Dev nD) (X : Dev nD → Vec F S256x256 .bf16) :
    (bigSep Finset.univ fun k => own c (slotM M k) (X k) : sProp 𝕄) ⊢ own c M (fun i => X (i 0) (ix2 (i 1) (i 2))) :=
  (bigSep_mono fun k _ => slot_slice M c k (X k)).trans
    (join_slices M slotRect (fun _ _ => rfl) slot_disjoint slot_cover _ _ (fun k x => by
      rw [slot_emb]
      refine Eq.trans ?_ (congrArg (shapeCast S1x256x256 (X k) shapeCasts_S256x256_S1x256x256) (show (ix3 (0 : Fin 1) (x 1) (x 2) : S1x256x256.Idx) = x from
        Shape.idx3_ext (by have h : (x 0).val < 1 := (x 0).isLt
                           show 0 = (x 0).val; omega) rfl rfl))
      exact (shapeCast_ab_1ab_apply (X k) shapeCasts_S256x256_S1x256x256 0 (x 1) (x 2)).symm) c)

theorem join_slots_any (c : Dev nD) : (bigSep Finset.univ fun k => ownAny F c (slotM M k) : sProp 𝕄) ⊢ ownAny F c M := by
  have : Nonempty (Vec F S256x256 .bf16) := ⟨fun _ => FloatOps.ofBits .bf16 0⟩
  refine (bigSep_exists_pi Finset.univ _).trans ?_
  iintro ⟨%X, H⟩
  iexists _
  iapply (join_slots M c X)
  iexact H

end slots

/-! ## The blocks of the result -/

theorem outBlk_disjoint : ∀ j j' : Dev nD, j ≠ j' → Disjoint (outRect j).set (outRect j').set := fun j j' h => by
  have hne : j.val ≠ j'.val := fun e => h (Fin.ext e)
  by_cases h0 : j.val / 2 = j'.val / 2
  · exact Rect.unit_disjoint (1 : Fin 3) (by
      show j.val % 2 * 256 + 256 ≤ j'.val % 2 * 256 ∨ j'.val % 2 * 256 + 256 ≤ j.val % 2 * 256
      omega)
  · exact Rect.unit_disjoint (0 : Fin 3) (by
      show j.val / 2 + 1 ≤ j'.val / 2 ∨ j'.val / 2 + 1 ≤ j.val / 2
      omega)

/-- The block that row `b` of batch row `a` lies in, and the row within it. -/
def blkOf (a : Fin 4) (b : Fin 512) : Dev nD := ⟨2 * a.val + b.val / 256, by
  have h1 := a.isLt; have h2 := b.isLt; show 2 * a.val + b.val / 256 < 8; omega⟩
def rowOf (b : Fin 512) : Fin 256 := ⟨b.val % 256, Nat.mod_lt _ (by decide)⟩

/-- The whole result on device `c`. -/
def outF (c : Dev nD) : Vec F S4x512x256 .f32 := fun i => outB m ρ c (blkOf (i 0) (i 1)) (ix3 (0 : Fin 1) (rowOf (i 1)) (i 2))

theorem outBlk_emb0 (j : Dev nD) (x : S1x256x256.Idx) : ((outRect j).emb x 0).val = j.val / 2 := by
  have h : (x 0).val < 1 := (x 0).isLt
  show j.val / 2 + 1 * (x 0).val = _; omega
theorem outBlk_emb1 (j : Dev nD) (x : S1x256x256.Idx) : ((outRect j).emb x 1).val = j.val % 2 * 256 + (x 1).val := by
  show j.val % 2 * 256 + 1 * (x 1).val = _; omega
theorem outBlk_emb2 (j : Dev nD) (x : S1x256x256.Idx) : ((outRect j).emb x 2).val = (x 2).val := by
  show 0 + 1 * (x 2).val = _; omega

theorem outBlk_cover (i : S4x512x256.Idx) : ∃ j, ∃ x, (outRect j).emb x = i := by
  have h0 : (i 0).val < 4 := (i 0).isLt
  have h1 : (i 1).val < 512 := (i 1).isLt
  refine ⟨blkOf (i 0) (i 1), (ix3 (0 : Fin 1) (rowOf (i 1)) (i 2) : S1x256x256.Idx), Shape.idx3_ext ?_ ?_ ?_⟩
  · rw [outBlk_emb0]; show (2 * (i 0).val + (i 1).val / 256) / 2 = (i 0).val; omega
  · rw [outBlk_emb1]; show (2 * (i 0).val + (i 1).val / 256) % 2 * 256 + (i 1).val % 256 = (i 1).val; omega
  · exact outBlk_emb2 _ _

theorem outF_blk (c j : Dev nD) (x : S1x256x256.Idx) : outF m ρ c ((outRect j).emb x) = outB m ρ c j x := by
  have e0 := outBlk_emb0 j x
  have e1 := outBlk_emb1 j x
  have hx0 : (x 0).val < 1 := (x 0).isLt
  have hx1 : (x 1).val < 256 := (x 1).isLt
  have hj : blkOf ((outRect j).emb x 0) ((outRect j).emb x 1) = j := Fin.ext (by
    show 2 * ((outRect j).emb x 0).val + ((outRect j).emb x 1).val / 256 = j.val
    rw [e0, e1]; omega)
  unfold outF
  rw [hj]
  refine congrArg (outB m ρ c j) (Shape.idx3_ext ?_ ?_ (outBlk_emb2 j x))
  · show 0 = (x 0).val; omega
  · show ((outRect j).emb x 1).val % 256 = (x 1).val; rw [e1]; omega

theorem cut_out (c : Dev nD) : (ownAny F c outM : sProp 𝕄) ⊢ bigSep Finset.univ fun j => ownAny F c (blkM j) :=
  cut_slices outM outRect (fun _ _ => rfl) outBlk_disjoint outBlk_cover c

theorem join_out (c : Dev nD) : (bigSep Finset.univ fun j => own c (blkM j) (outB m ρ c j) : sProp 𝕄) ⊢ own c outM (outF m ρ c) :=
  join_slices outM outRect (fun _ _ => rfl) outBlk_disjoint outBlk_cover _ _ (fun j x => outF_blk m ρ c j x) c

/-! ## The shares of the sum that is sent to seven devices -/

theorem src_shares (c : Dev nD) : (own c srcM (srcF m ρ c) : sProp 𝕄) = bigSep Finset.univ fun k => srcShare m ρ c k := by
  unfold srcShare own
  simp only [owns_whole]
  exact ShareLeaves.pointsTo_leaves _ _ 3 fullShare
end Cert.KernelIdealRun

end
-- ==== Proof.KernelIdealRun.Parts.lean ====
/-
# The printed parts of the body

The body is printed in nine parts and a tail. For each: what it takes at a symbolic device, what it leaves.
-/
module

public import proofs.«01_k».proof.Proof.KernelIdealRun.Blocks

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- The convolution before its last two terms, as the second part passes it on, the input moved by one row, and the third tap. -/
abbrev accF (c : Dev nD) : FVec F S4x512x256 .bf16 := k0_pay3 (xF m ρ c) (kF m ρ c)
abbrev movF (c : Dev nD) : FVec F S4x512x256 .bf16 := k0_pay4 (xF m ρ c)
abbrev tapF (c : Dev nD) : FVec F S256 .bf16 := k0_pay5 (kF m ρ c)

/-- Everything owed of one kind sent, nothing of it is owed. -/
theorem ow_end (q : Fin 4) (c : Dev nD) (O : CellTallies nD τ sig Unit) : (ow F c (O + owedD q c 8) : sProp 𝕄) = ow F c O := by
  rw [owedD_end, add_zero]

/-- The third: the projection loaded, the first two blocks stored and sent. -/
theorem part3_spec (c : Dev nD) (O : CellTallies nD τ sig Unit) {Φ} :
    iprop(recs m ρ K ∗ (own c wM (wF m ρ c) ∗ ownAny F c (slotM partM 0) ∗ ownAny F c (slotM partM 1) ∗ Pre1 F c 0 ∗ Pre1 F c 1 ∗ ow F c (O + owedD 1 c 0))
        ∗ ((own c wM (wF m ρ c) ∗ Done1 m ρ c 0 ∗ Done1 m ρ c 1 ∗ ow F c (O + owedD 1 c 2)) -∗ Φ ⟨actF m ρ c, prjF m ρ c, k0_pay12 (accF m ρ c) (movF m ρ c) (tapF m ρ c) (wF m ρ c)⟩))
    ⊢ WP c (k0_part3 (F := F) xM (Memref.isWhole_whole _) kM (Memref.isWhole_whole _) wM (Memref.isWhole_whole _) outM (Memref.isWhole_whole _)
      partM (Memref.isWhole_whole _) redM (Memref.isWhole_whole _) srcM (Memref.isWhole_whole _) p1M (Memref.isWhole_whole _) p2M (Memref.isWhole_whole _)
      cc0_scratch5 cc0_scratch6 cc0_scratch7 cc0_scratch8 c (BitVec.ofNat 32 c.val) (accF m ρ c) (movF m ρ c) (tapF m ρ c)) Φ := by
  rw [k0_part3_eq_skeleton]
  unfold k0_part3_skel actF prjF
  iintro ⟨#HR, ⟨Hw, A0, A1, P0, P1, HO⟩, Hk⟩
  iapply (step_load_all c wM (wF m ρ c) (wF m ρ c) (fun f hf => (Memref.readAt_unit_zero (Elt F) cc0_stg2_0 zero2 _ f).trans (show f = wF m ρ c from hf)))
  iframe Hw
  iintro Hw
  iapply (step_block1 m ρ K c 0 _ rfl _ (cond1 c) _ (slot_eq partM 0 rfl) _ (fun h => dev_eq 0 k0_dev8_eq) _ (fun h => slot_eq p1M c (k0_off2_eq c))
    _ (fun h => entry0 0 rfl) _ (fun h => entry1 c (k0_off1_eq c)) _ (own_cond c 0) _ (fun v => shapeCast_shapeCast _ _ _) O)
  iframe HR A0 P0
  isplitl [HO]; · iexact HO
  iintro ⟨D0, HO⟩
  iapply (step_block1 m ρ K c 1 _ rfl _ (cond3 c) _ (slot_eq partM 1 rfl) _ (fun h => dev_eq 1 k0_dev9_eq) _ (fun h => slot_eq p1M c (k0_off4_eq c))
    _ (fun h => entry0 1 rfl) _ (fun h => entry1 c (k0_off3_eq c)) _ (own_cond c 1) _ (fun v => shapeCast_shapeCast _ _ _) O)
  iframe HR A1 P1
  isplitl [HO]; · iexact HO
  iintro ⟨D1, HO⟩
  iapply (step_pure c)
  iapply Hk
  iframe Hw D0 D1
  iexact HO

/-- The fourth: blocks 2, 3 and 4 stored and sent. -/
theorem part4_spec (c : Dev nD) (O : CellTallies nD τ sig Unit) {Φ} :
    iprop(recs m ρ K ∗ (ownAny F c (slotM partM 2) ∗ ownAny F c (slotM partM 3) ∗ ownAny F c (slotM partM 4) ∗ Pre1 F c 2 ∗ Pre1 F c 3 ∗ Pre1 F c 4 ∗ ow F c (O + owedD 1 c 2))
        ∗ ((Done1 m ρ c 2 ∗ Done1 m ρ c 3 ∗ Mid1 m ρ c 4 ∗ ow F c (O + owedD 1 c 5)) -∗ Φ ⟨⟩))
    ⊢ WP c (k0_part4 (F := F) xM (Memref.isWhole_whole _) kM (Memref.isWhole_whole _) wM (Memref.isWhole_whole _) outM (Memref.isWhole_whole _)
      partM (Memref.isWhole_whole _) redM (Memref.isWhole_whole _) srcM (Memref.isWhole_whole _) p1M (Memref.isWhole_whole _) p2M (Memref.isWhole_whole _)
      cc0_scratch5 cc0_scratch6 cc0_scratch7 cc0_scratch8 c (BitVec.ofNat 32 c.val) (actF m ρ c) (prjF m ρ c) (k0_pay12 (accF m ρ c) (movF m ρ c) (tapF m ρ c) (wF m ρ c))) Φ := by
  rw [k0_part4_eq_skeleton]
  unfold k0_part4_skel
  iintro ⟨#HR, ⟨A2, A3, A4, P2, P3, P4, HO⟩, Hk⟩
  iapply (step_block1 m ρ K c 2 _ rfl _ (cond5 c) _ (slot_eq partM 2 rfl) _ (fun h => dev_eq 2 k0_dev10_eq) _ (fun h => slot_eq p1M c (k0_off6_eq c))
    _ (fun h => entry0 2 rfl) _ (fun h => entry1 c (k0_off5_eq c)) _ (own_cond c 2) _ (fun v => shapeCast_shapeCast _ _ _) O)
  iframe HR A2 P2
  isplitl [HO]; · iexact HO
  iintro ⟨D2, HO⟩
  iapply (step_block1 m ρ K c 3 _ rfl _ (cond7 c) _ (slot_eq partM 3 rfl) _ (fun h => dev_eq 3 k0_dev11_eq) _ (fun h => slot_eq p1M c (k0_off8_eq c))
    _ (fun h => entry0 3 rfl) _ (fun h => entry1 c (k0_off7_eq c)) _ (own_cond c 3) _ (fun v => shapeCast_shapeCast _ _ _) O)
  iframe HR A3 P3
  isplitl [HO]; · iexact HO
  iintro ⟨D3, HO⟩
  iapply (step_put partM c 4)
  iframe A4
  iintro A4
  iapply (step_send1 m ρ K c 4 _ (cond9 c) _ (slot_eq partM 4 rfl) _ (fun h => dev_eq 4 k0_dev12_eq) _ (fun h => slot_eq p1M c (k0_off10_eq c))
    _ (fun h => entry0 4 rfl) _ (fun h => entry1 c (k0_off9_eq c)) O)
  iframe HR P4
  isplitl [A4 HO]
  · isplitl [A4]; · iexact A4
    iexact HO
  iintro ⟨M4, HO⟩
  iapply (step_pure c)
  iapply Hk
  iframe D2 D3 M4
  iexact HO

/-- The fifth: block 4 kept if it is the own one, blocks 5 and 6 stored and sent. -/
theorem part5_spec (c : Dev nD) (O : CellTallies nD τ sig Unit) {Φ} :
    iprop(recs m ρ K ∗ (Mid1 m ρ c 4 ∗ ownAny F c (slotM partM 5) ∗ ownAny F c (slotM partM 6) ∗ ownAny F c (slotM partM 7) ∗ Pre1 F c 5 ∗ Pre1 F c 6 ∗ ow F c (O + owedD 1 c 5))
        ∗ (∀ v, (Done1 m ρ c 4 ∗ Done1 m ρ c 5 ∗ Done1 m ρ c 6 ∗ ownAny F c (slotM partM 7) ∗ ow F c (O + owedD 1 c 7)) -∗ Φ ⟨k0_pay23 (actF m ρ c) (prjF m ρ c), v⟩))
    ⊢ WP c (k0_part5 (F := F) xM (Memref.isWhole_whole _) kM (Memref.isWhole_whole _) wM (Memref.isWhole_whole _) outM (Memref.isWhole_whole _)
      partM (Memref.isWhole_whole _) redM (Memref.isWhole_whole _) srcM (Memref.isWhole_whole _) p1M (Memref.isWhole_whole _) p2M (Memref.isWhole_whole _)
      cc0_scratch5 cc0_scratch6 cc0_scratch7 cc0_scratch8 c (BitVec.ofNat 32 c.val) (actF m ρ c) (prjF m ρ c)) Φ := by
  rw [k0_part5_eq_skeleton]
  unfold k0_part5_skel
  iintro ⟨#HR, ⟨M4, A5, A6, A7, P5, P6, HO⟩, Hk⟩
  iapply (step_own1 m ρ c 4 _ (own_cond c 4) _ (fun v => shapeCast_shapeCast _ _ _))
  iframe M4
  iintro D4
  iapply (step_block1 m ρ K c 5 _ rfl _ (cond11 c) _ (slot_eq partM 5 rfl) _ (fun h => dev_eq 5 k0_dev13_eq) _ (fun h => slot_eq p1M c (k0_off12_eq c))
    _ (fun h => entry0 5 rfl) _ (fun h => entry1 c (k0_off11_eq c)) _ (own_cond c 5) _ (fun v => shapeCast_shapeCast _ _ _) O)
  iframe HR A5 P5
  isplitl [HO]; · iexact HO
  iintro ⟨D5, HO⟩
  iapply (step_block1 m ρ K c 6 _ rfl _ (cond13 c) _ (slot_eq partM 6 rfl) _ (fun h => dev_eq 6 k0_dev14_eq) _ (fun h => slot_eq p1M c (k0_off14_eq c))
    _ (fun h => entry0 6 rfl) _ (fun h => entry1 c (k0_off13_eq c)) _ (own_cond c 6) _ (fun v => shapeCast_shapeCast _ _ _) O)
  iframe HR A6 P6
  isplitl [HO]; · iexact HO
  iintro ⟨D6, HO⟩
  icases A7 with ⟨%X7, A7⟩
  iapply (step_load_slot partM c 7 fullShare X7)
  iframe A7
  iintro A7
  iapply (step_pure c)
  iapply Hk
  iframe D4 D5 D6
  isplitl [A7]; · iexists X7; iexact A7
  iexact HO

/-- The sixth: the last block stored and sent, the first seven receipts. -/
theorem part6_spec (c : Dev nD) (O : CellTallies nD τ sig Unit) (hO : Above 2 O) (v : Vec F S1x256x256 .bf16) {Φ} :
    iprop(recs m ρ K ∗ (Done1 m ρ c 0 ∗ Done1 m ρ c 1 ∗ Done1 m ρ c 2 ∗ Done1 m ρ c 3 ∗ Done1 m ρ c 4 ∗ Done1 m ρ c 5 ∗ Done1 m ρ c 6 ∗ ownAny F c (slotM partM 7) ∗ Pre1 F c 7 ∗ Wt F 1 c 0 ∗ Wt F 1 c 1 ∗ Wt F 1 c 2 ∗ Wt F 1 c 3 ∗ Wt F 1 c 4 ∗ Wt F 1 c 5 ∗ Wt F 1 c 6 ∗ ow F c (O + owedD 1 c 7))
        ∗ ((Left1 m ρ c 0 ∗ own c (slotM p1M 0) (partV m ρ 0 c) ∗ clr F 1 c 0 ∗ Left1 m ρ c 1 ∗ own c (slotM p1M 1) (partV m ρ 1 c) ∗ clr F 1 c 1 ∗ Left1 m ρ c 2 ∗ own c (slotM p1M 2) (partV m ρ 2 c) ∗ clr F 1 c 2 ∗ Left1 m ρ c 3 ∗ own c (slotM p1M 3) (partV m ρ 3 c) ∗ clr F 1 c 3 ∗ Left1 m ρ c 4 ∗ own c (slotM p1M 4) (partV m ρ 4 c) ∗ clr F 1 c 4 ∗ Left1 m ρ c 5 ∗ own c (slotM p1M 5) (partV m ρ 5 c) ∗ clr F 1 c 5 ∗ Left1 m ρ c 6 ∗ own c (slotM p1M 6) (partV m ρ 6 c) ∗ clr F 1 c 6 ∗ Done1 m ρ c 7 ∗ ow F c O) -∗ Φ (Scalar.extui (Scalar.cmpi .ne (BitVec.ofNat 32 c.val) 7#32))))
    ⊢ WP c (k0_part6 (F := F) xM (Memref.isWhole_whole _) kM (Memref.isWhole_whole _) wM (Memref.isWhole_whole _) outM (Memref.isWhole_whole _)
      partM (Memref.isWhole_whole _) redM (Memref.isWhole_whole _) srcM (Memref.isWhole_whole _) p1M (Memref.isWhole_whole _) p2M (Memref.isWhole_whole _)
      cc0_scratch5 cc0_scratch6 cc0_scratch7 cc0_scratch8 c (BitVec.ofNat 32 c.val) (k0_pay23 (actF m ρ c) (prjF m ρ c)) v) Φ := by
  rw [k0_part6_eq_skeleton]
  unfold k0_part6_skel
  iintro ⟨#HR, ⟨D0, D1, D2, D3, D4, D5, D6, A7, P7, W0, W1, W2, W3, W4, W5, W6, HO⟩, Hk⟩
  iapply (step_store_slot partM c 7)
  iframe A7
  iintro A7
  iapply (step_send1 m ρ K c 7 _ (cond15 c) _ (slot_eq partM 7 rfl) _ (fun h => dev_eq 7 k0_dev15_eq) _ (fun h => slot_eq p1M c (k0_off16_eq c))
    _ (fun h => entry0 7 rfl) _ (fun h => entry1 c (k0_off15_eq c)) O)
  iframe HR P7
  isplitl [A7 HO]
  · isplitl [A7]; · iexact A7
    iexact HO
  iintro ⟨M7, HO⟩
  iapply (step_own1 m ρ c 7 _ (own_cond c 7) _ (fun v => shapeCast_shapeCast _ _ _))
  iframe M7
  iintro D7
  ihave HO := (Entails.of_eq (ow_end 1 c O)) $$ [HO]
  · iexact HO
  iapply (step_wait1 m ρ K c 0 _ (other_cond c 0) _ (entry1 0 rfl) _ (slotM p1M 0) rfl O hO)
  iframe HR D0 W0 HO
  iintro ⟨L0, R0, C0, HO⟩
  iapply (step_wait1 m ρ K c 1 _ (other_cond c 1) _ (entry1 1 rfl) _ (slotM p1M 1) rfl O hO)
  iframe HR D1 W1 HO
  iintro ⟨L1, R1, C1, HO⟩
  iapply (step_wait1 m ρ K c 2 _ (other_cond c 2) _ (entry1 2 rfl) _ (slotM p1M 2) rfl O hO)
  iframe HR D2 W2 HO
  iintro ⟨L2, R2, C2, HO⟩
  iapply (step_wait1 m ρ K c 3 _ (other_cond c 3) _ (entry1 3 rfl) _ (slotM p1M 3) rfl O hO)
  iframe HR D3 W3 HO
  iintro ⟨L3, R3, C3, HO⟩
  iapply (step_wait1 m ρ K c 4 _ (other_cond c 4) _ (entry1 4 rfl) _ (slotM p1M 4) rfl O hO)
  iframe HR D4 W4 HO
  iintro ⟨L4, R4, C4, HO⟩
  iapply (step_wait1 m ρ K c 5 _ (other_cond c 5) _ (entry1 5 rfl) _ (slotM p1M 5) rfl O hO)
  iframe HR D5 W5 HO
  iintro ⟨L5, R5, C5, HO⟩
  iapply (step_wait1 m ρ K c 6 _ (other_cond c 6) _ (entry1 6 rfl) _ (slotM p1M 6) rfl O hO)
  iframe HR D6 W6 HO
  iintro ⟨L6, R6, C6, HO⟩
  iapply (step_pure c)
  iapply Hk
  iframe L0 R0 C0 L1 R1 C1 L2 R2 C2 L3 R3 C3 L4 R4 C4 L5 R5 C5 L6 R6 C6 D7 HO

/-- The seventh: the last receipt, the sum of the eight received blocks, the sum sent to five devices. -/
theorem part7_spec (c : Dev nD) {Φ} :
    iprop(recs m ρ K ∗ (Done1 m ρ c 7 ∗ Wt F 1 c 7 ∗ own c (slotM p1M 0) (partV m ρ 0 c) ∗ own c (slotM p1M 1) (partV m ρ 1 c) ∗ own c (slotM p1M 2) (partV m ρ 2 c) ∗ own c (slotM p1M 3) (partV m ρ 3 c) ∗ own c (slotM p1M 4) (partV m ρ 4 c) ∗ own c (slotM p1M 5) (partV m ρ 5 c) ∗ own c (slotM p1M 6) (partV m ρ 6 c) ∗ ownAny F c redM ∗ ownAny F c srcM ∗ Pre2 F c 0 ∗ Pre2 F c 1 ∗ Pre2 F c 2 ∗ Pre2 F c 3 ∗ Pre2 F c 4 ∗ ow F c (owedD 3 c 0))
        ∗ ((Left1 m ρ c 7 ∗ clr F 1 c 7 ∗ own c p1M (recvF m ρ c) ∗ own c redM (redF m ρ c) ∗ srcShare m ρ c 5 ∗ srcShare m ρ c 6 ∗ srcShare m ρ c 7 ∗ Mid2 m ρ c 0 ∗ Mid2 m ρ c 1 ∗ Mid2 m ρ c 2 ∗ Mid2 m ρ c 3 ∗ Mid2 m ρ c 4 ∗ ow F c (0 + owedD 3 c 5)) -∗ Φ ⟨(Scalar.extui (Scalar.cmpi .ne (BitVec.ofNat 32 c.val) 5#32)), 0#32⟩))
    ⊢ WP c (k0_part7 (F := F) xM (Memref.isWhole_whole _) kM (Memref.isWhole_whole _) wM (Memref.isWhole_whole _) outM (Memref.isWhole_whole _)
      partM (Memref.isWhole_whole _) redM (Memref.isWhole_whole _) srcM (Memref.isWhole_whole _) p1M (Memref.isWhole_whole _) p2M (Memref.isWhole_whole _)
      cc0_scratch5 cc0_scratch6 cc0_scratch7 cc0_scratch8 c (BitVec.ofNat 32 c.val) (Scalar.extui (Scalar.cmpi .ne (BitVec.ofNat 32 c.val) 7#32))) Φ := by
  rw [k0_part7_eq_skeleton]
  unfold k0_part7_skel
  iintro ⟨#HR, ⟨D7, W7, R0, R1, R2, R3, R4, R5, R6, HX, HS, Q0, Q1, Q2, Q3, Q4, HO⟩, Hk⟩
  iapply (step_wait1 m ρ K c 7 _ (other_cond c 7) _ (entry1 7 rfl) _ (slotM p1M 7) rfl (owedD 3 c 0) (above_owedD3 c 0))
  iframe HR D7 W7 HO
  iintro ⟨L7, R7, C7, HO⟩
  ihave HP := ((Entails.of_eq (eight (fun k => own c (slotM p1M k) (partV m ρ k c))).symm).trans (join_slots p1M c (fun k => partV m ρ k c))) $$ [R0 R1 R2 R3 R4 R5 R6 R7]
  · iframe R0 R1 R2 R3 R4 R5 R6 R7
  iapply (step_load_all c p1M (recvF m ρ c) (recvF m ρ c)
    (fun f hf => (Memref.readAt_unit_zero (Elt F) cc0_scratch3 zero3 _ f).trans (show f = recvF m ρ c from hf)))
  isplitl [HP]; · iexact HP
  iintro HP
  iapply (step_put_all c redM (r := Rect.unit (s := S256x256) ![0, 0] S256x256.size inb_S256x256_S256x256_0_0) _ (redF m ρ c)
    (fun f => Memref.write_access_unit_zero_univ (Elt F) cc0_scratch1 zero2 inb_S256x256_S256x256_0_0 f _))
  iframe HX
  iintro HX
  iapply (step_load_all c redM (redF m ρ c) (redF m ρ c)
    (fun f hf => (Memref.readAt_unit_zero (Elt F) cc0_scratch1 zero2 _ f).trans (show f = redF m ρ c from hf)))
  iframe HX
  iintro HX
  iapply (step_put_all c srcM (r := Rect.unit (s := S256x256) ![0, 0] S256x256.size inb_S256x256_S256x256_0_0) _ (srcF m ρ c)
    (fun f => Memref.write_access_unit_zero_univ (Elt F) cc0_scratch2 zero2 inb_S256x256_S256x256_0_0 f _))
  iframe HS
  iintro HS
  ihave ⟨S0, S1, S2, S3, S4, S5, S6, S7⟩ := (Entails.of_eq ((src_shares m ρ c).trans (eight (fun k => srcShare m ρ c k)))) $$ HS
  ihave HO := (Entails.of_eq (congrArg (ow F c) (zero_add (owedD 3 c 0)).symm)) $$ HO
  iapply (step_send2 m ρ K c 0 _ (cond25 c) _ (fun h => dev_eq 0 k0_dev16_eq) _ (fun h => slot_eq p2M c (k0_off18_eq c))
    _ (fun h => entry2 0 rfl) _ (fun h => entry3 c (k0_off17_eq c)) 0)
  iframe HR S0 Q0
  isplitl [HO]; · iexact HO
  iintro ⟨M0, HO⟩
  iapply (step_send2 m ρ K c 1 _ (cond26 c) _ (fun h => dev_eq 1 k0_dev17_eq) _ (fun h => slot_eq p2M c (k0_off20_eq c))
    _ (fun h => entry2 1 rfl) _ (fun h => entry3 c (k0_off19_eq c)) 0)
  iframe HR S1 Q1
  isplitl [HO]; · iexact HO
  iintro ⟨M1, HO⟩
  iapply (step_send2 m ρ K c 2 _ (cond27 c) _ (fun h => dev_eq 2 k0_dev18_eq) _ (fun h => slot_eq p2M c (k0_off22_eq c))
    _ (fun h => entry2 2 rfl) _ (fun h => entry3 c (k0_off21_eq c)) 0)
  iframe HR S2 Q2
  isplitl [HO]; · iexact HO
  iintro ⟨M2, HO⟩
  iapply (step_send2 m ρ K c 3 _ (cond28 c) _ (fun h => dev_eq 3 k0_dev19_eq) _ (fun h => slot_eq p2M c (k0_off24_eq c))
    _ (fun h => entry2 3 rfl) _ (fun h => entry3 c (k0_off23_eq c)) 0)
  iframe HR S3 Q3
  isplitl [HO]; · iexact HO
  iintro ⟨M3, HO⟩
  iapply (step_send2 m ρ K c 4 _ (cond29 c) _ (fun h => dev_eq 4 k0_dev20_eq) _ (fun h => slot_eq p2M c (k0_off26_eq c))
    _ (fun h => entry2 4 rfl) _ (fun h => entry3 c (k0_off25_eq c)) 0)
  iframe HR S4 Q4
  isplitl [HO]; · iexact HO
  iintro ⟨M4, HO⟩
  iapply (step_pure c)
  iapply Hk
  iframe L7 C7 HP HX S5 S6 S7 M0 M1 M2 M3 M4
  iexact HO

/-- The eighth: the sum sent to the other three devices, the first four blocks of the result. -/
theorem part8_spec (c : Dev nD) {Φ} :
    iprop(recs m ρ K ∗ (srcShare m ρ c 5 ∗ srcShare m ρ c 6 ∗ srcShare m ρ c 7 ∗ Pre2 F c 5 ∗ Pre2 F c 6 ∗ Pre2 F c 7 ∗ own c redM (redF m ρ c) ∗ Wt F 3 c 0 ∗ Wt F 3 c 1 ∗ Wt F 3 c 2 ∗ Wt F 3 c 3 ∗ ownAny F c (blkM 0) ∗ ownAny F c (blkM 1) ∗ ownAny F c (blkM 2) ∗ ownAny F c (blkM 3) ∗ ow F c (0 + owedD 3 c 5))
        ∗ ((Mid2 m ρ c 5 ∗ Mid2 m ρ c 6 ∗ Mid2 m ρ c 7 ∗ (Fin3 m ρ c 0 ∗ clr F 3 c 0) ∗ (Fin3 m ρ c 1 ∗ clr F 3 c 1) ∗ (Fin3 m ρ c 2 ∗ clr F 3 c 2) ∗ Rcv m ρ c 3 ∗ clr F 3 c 3 ∗ own c redM (redF m ρ c) ∗ ow F c 0) -∗ Φ ⟨(Scalar.extui (Scalar.cmpi .eq (BitVec.ofNat 32 c.val) 3#32)), 0#32⟩))
    ⊢ WP c (k0_part8 (F := F) xM (Memref.isWhole_whole _) kM (Memref.isWhole_whole _) wM (Memref.isWhole_whole _) outM (Memref.isWhole_whole _)
      partM (Memref.isWhole_whole _) redM (Memref.isWhole_whole _) srcM (Memref.isWhole_whole _) p1M (Memref.isWhole_whole _) p2M (Memref.isWhole_whole _)
      cc0_scratch5 cc0_scratch6 cc0_scratch7 cc0_scratch8 c (BitVec.ofNat 32 c.val) (Scalar.extui (Scalar.cmpi .ne (BitVec.ofNat 32 c.val) 5#32)) 0#32) Φ := by
  rw [k0_part8_eq_skeleton]
  unfold k0_part8_skel
  iintro ⟨#HR, ⟨S5, S6, S7, Q5, Q6, Q7, HX, V0, V1, V2, V3, B0, B1, B2, B3, HO⟩, Hk⟩
  iapply (step_send2 m ρ K c 5 _ (cond30 c) _ (fun h => dev_eq 5 k0_dev21_eq) _ (fun h => slot_eq p2M c (k0_off28_eq c))
    _ (fun h => entry2 5 rfl) _ (fun h => entry3 c (k0_off27_eq c)) 0)
  iframe HR S5 Q5
  isplitl [HO]; · iexact HO
  iintro ⟨M5, HO⟩
  iapply (step_send2 m ρ K c 6 _ (cond31 c) _ (fun h => dev_eq 6 k0_dev22_eq) _ (fun h => slot_eq p2M c (k0_off30_eq c))
    _ (fun h => entry2 6 rfl) _ (fun h => entry3 c (k0_off29_eq c)) 0)
  iframe HR S6 Q6
  isplitl [HO]; · iexact HO
  iintro ⟨M6, HO⟩
  iapply (step_send2 m ρ K c 7 _ (cond32 c) _ (fun h => dev_eq 7 k0_dev23_eq) _ (fun h => slot_eq p2M c (k0_off32_eq c))
    _ (fun h => entry2 7 rfl) _ (fun h => entry3 c (k0_off31_eq c)) 0)
  iframe HR S7 Q7
  isplitl [HO]; · iexact HO
  iintro ⟨M7, HO⟩
  ihave HO := (Entails.of_eq (ow_end 3 c 0)) $$ [HO]
  · iexact HO
  iapply (step_block2 m ρ K c 0 _ (other_cond c 0) _ (entry3 0 rfl) _ (slotM p2M 0) rfl _ (fun _ => rfl) _ (own_cond c 0) _ (fun _ => rfl))
  iframe HR V0 B0 HX HO
  iintro ⟨B0, C0, HX, HO⟩
  iapply (step_block2 m ρ K c 1 _ (other_cond c 1) _ (entry3 1 rfl) _ (slotM p2M 1) rfl _ (fun _ => rfl) _ (own_cond c 1) _ (fun _ => rfl))
  iframe HR V1 B1 HX HO
  iintro ⟨B1, C1, HX, HO⟩
  iapply (step_block2 m ρ K c 2 _ (other_cond c 2) _ (entry3 2 rfl) _ (slotM p2M 2) rfl _ (fun _ => rfl) _ (own_cond c 2) _ (fun _ => rfl))
  iframe HR V2 B2 HX HO
  iintro ⟨B2, C2, HX, HO⟩
  iapply (step_recv2 m ρ K c 3 _ (other_cond c 3) _ (entry3 3 rfl) _ (slotM p2M 3) rfl _ (fun _ => rfl))
  iframe HR V3 B3 HO
  iintro ⟨B3, C3, HO⟩
  iapply (step_pure c)
  iapply Hk
  iframe M5 M6 M7 B0 C0 B1 C1 B2 C2 B3 C3 HX HO

/-- The ninth: the other blocks of the result, the first sends collected. -/
theorem part9_spec (c : Dev nD) {Φ} :
    iprop(recs m ρ K ∗ (own c redM (redF m ρ c) ∗ Rcv m ρ c 3 ∗ Wt F 3 c 4 ∗ Wt F 3 c 5 ∗ Wt F 3 c 6 ∗ Wt F 3 c 7 ∗ ownAny F c (blkM 4) ∗ ownAny F c (blkM 5) ∗ ownAny F c (blkM 6) ∗ ownAny F c (blkM 7) ∗ Left1 m ρ c 0 ∗ Mid2 m ρ c 0 ∗ pos F 0 c 0 ∗ pos F 2 c 0 ∗ ow F c 0)
        ∗ ((own c redM (redF m ρ c) ∗ Fin3 m ρ c 3 ∗ (Fin3 m ρ c 4 ∗ clr F 3 c 4) ∗ (Fin3 m ρ c 5 ∗ clr F 3 c 5) ∗ (Fin3 m ρ c 6 ∗ clr F 3 c 6) ∗ (Fin3 m ρ c 7 ∗ clr F 3 c 7) ∗ Fin0 m ρ c 0 ∗ clr F 0 c 0 ∗ clr F 2 c 0 ∗ ow F c 0) -∗ Φ ⟨(Scalar.extui (Scalar.cmpi .ne (BitVec.ofNat 32 c.val) 1#32)), 0#32⟩))
    ⊢ WP c (k0_part9 (F := F) xM (Memref.isWhole_whole _) kM (Memref.isWhole_whole _) wM (Memref.isWhole_whole _) outM (Memref.isWhole_whole _)
      partM (Memref.isWhole_whole _) redM (Memref.isWhole_whole _) srcM (Memref.isWhole_whole _) p1M (Memref.isWhole_whole _) p2M (Memref.isWhole_whole _)
      cc0_scratch5 cc0_scratch6 cc0_scratch7 cc0_scratch8 (BitVec.ofNat 32 c.val) (Scalar.extui (Scalar.cmpi .eq (BitVec.ofNat 32 c.val) 3#32)) 0#32) Φ := by
  rw [k0_part9_eq_skeleton]
  unfold k0_part9_skel
  iintro ⟨#HR, ⟨HX, B3, V4, V5, V6, V7, B4, B5, B6, B7, L0, M0, T0, U0, HO⟩, Hk⟩
  iapply (step_own2 m ρ c 3 _ (own_cond c 3) _ (fun _ => rfl))
  iframe HX B3
  iintro ⟨HX, B3⟩
  iapply (step_block2 m ρ K c 4 _ (other_cond c 4) _ (entry3 4 rfl) _ (slotM p2M 4) rfl _ (fun _ => rfl) _ (own_cond c 4) _ (fun _ => rfl))
  iframe HR V4 B4 HX HO
  iintro ⟨B4, C4, HX, HO⟩
  iapply (step_block2 m ρ K c 5 _ (other_cond c 5) _ (entry3 5 rfl) _ (slotM p2M 5) rfl _ (fun _ => rfl) _ (own_cond c 5) _ (fun _ => rfl))
  iframe HR V5 B5 HX HO
  iintro ⟨B5, C5, HX, HO⟩
  iapply (step_block2 m ρ K c 6 _ (other_cond c 6) _ (entry3 6 rfl) _ (slotM p2M 6) rfl _ (fun _ => rfl) _ (own_cond c 6) _ (fun _ => rfl))
  iframe HR V6 B6 HX HO
  iintro ⟨B6, C6, HX, HO⟩
  iapply (step_block2 m ρ K c 7 _ (other_cond c 7) _ (entry3 7 rfl) _ (slotM p2M 7) rfl _ (fun _ => rfl) _ (own_cond c 7) _ (fun _ => rfl))
  iframe HR V7 B7 HX HO
  iintro ⟨B7, C7, HX, HO⟩
  iapply (step_collect m ρ K c 0 _ (other_cond c 0) _ (entry0 0 rfl) _ (slotM partM 0) rfl _ (entry2 0 rfl) _ srcM rfl)
  iframe HR L0 M0 T0 U0 HO
  iintro ⟨Z0, X0, Y0, HO⟩
  iapply (step_pure c)
  iapply Hk
  iframe HX B3 B4 C4 B5 C5 B6 C6 B7 C7 Z0 X0 Y0 HO

end Cert.KernelIdealRun

end
-- ==== Proof.KernelIdealRun.Body.lean ====
/-
# The body of the kernel, at a symbolic device
-/
module

public import proofs.«01_k».proof.Proof.KernelIdealRun.Parts

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- What a signal to device `j` hands over: the own slots that `j` sends to. -/
def Sig (F : FTy → Type) (c j : Dev nD) : sProp (MT nD τ sig Unit (Elt F) ℕ UU ℕ) :=
  iprop(dutyTok ER (barCell j) 0 c ∗ ownAny F c (slotM p1M j) ∗ ownAny F c (slotM p2M j))

theorem step_bind (c : Dev nD) {α β : Type} (p : P F α) (k : α → P F β) (Φ : β → sProp 𝕄) :
    WP c p (fun a => WP c (k a) Φ) ⊢ WP c (p >>= k) Φ := Entails.of_eq (WP_bind c p k Φ).symm

theorem step_id (c : Dev nD) {α : Type} {k : Dev nD → P F α} {Φ : α → sProp 𝕄} : WP c (k c) Φ ⊢ WP c (Prog.lift .deviceId >>= k) Φ := by
  show _ ⊢ wp _ _ _ (Prog.op .deviceId k) _
  rw [wp_deviceId]

/-- The first part: five signals. -/
theorem part1_spec (c : Dev nD) (O : CellTallies nD τ sig Unit) {Φ} :
    iprop(recs m ρ K ∗ (Sig F c (rot c 1) ∗ Sig F c (rot c 2) ∗ Sig F c (rot c 3) ∗ Sig F c (rot c 4) ∗ Sig F c (rot c 5) ∗ ow F c (O + owedB c 1))
        ∗ ((ow F c (O + owedB c 6)) -∗ Φ ⟨c, BitVec.ofNat 32 c.val, SemArray.scalar (sig.barrier 0 rfl), Scalar.addi (BitVec.ofNat 32 c.val) 6#32, 8#32⟩))
    ⊢ WP c (k0_part1 (F := F) xM (Memref.isWhole_whole _) kM (Memref.isWhole_whole _) wM (Memref.isWhole_whole _) outM (Memref.isWhole_whole _)
      partM (Memref.isWhole_whole _) redM (Memref.isWhole_whole _) srcM (Memref.isWhole_whole _) p1M (Memref.isWhole_whole _) p2M (Memref.isWhole_whole _)
      cc0_scratch5 cc0_scratch6 cc0_scratch7 cc0_scratch8 ) Φ := by
  rw [← my_word c, k0_part1_eq_skeleton]
  unfold k0_part1_skel Sig
  iintro ⟨#HR, ⟨G1, G2, G3, G4, G5, HO⟩, Hk⟩
  iapply (step_id c)
  icases G1 with ⟨G1, E1, F1⟩
  iapply (step_signal m ρ K c 1 (by decide) _ (peer_eq c 1 (k0_dev1_eq c)) 1#32 (by decide) O)
  iframe HR HO G1 E1 F1
  iintro HO
  icases G2 with ⟨G2, E2, F2⟩
  iapply (step_signal m ρ K c 2 (by decide) _ (peer_eq c 2 (k0_dev2_eq c)) 1#32 (by decide) O)
  iframe HR HO G2 E2 F2
  iintro HO
  icases G3 with ⟨G3, E3, F3⟩
  iapply (step_signal m ρ K c 3 (by decide) _ (peer_eq c 3 (k0_dev3_eq c)) 1#32 (by decide) O)
  iframe HR HO G3 E3 F3
  iintro HO
  icases G4 with ⟨G4, E4, F4⟩
  iapply (step_signal m ρ K c 4 (by decide) _ (peer_eq c 4 (k0_dev4_eq c)) 1#32 (by decide) O)
  iframe HR HO G4 E4 F4
  iintro HO
  icases G5 with ⟨G5, E5, F5⟩
  iapply (step_signal m ρ K c 5 (by decide) _ (peer_eq c 5 (k0_dev5_eq c)) 1#32 (by decide) O)
  iframe HR HO G5 E5 F5
  iintro HO
  iapply (step_pure c)
  iapply Hk
  iexact HO

/-- The second: two more signals, the wait for seven, the input and the taps loaded. -/
theorem part2_spec (c : Dev nD) {Φ} :
    iprop(recs m ρ K ∗ (Sig F c (rot c 6) ∗ Sig F c (rot c 7) ∗ atPos ER (barCell c) 0 ∅ 0 ∗ cred (tallyAt (barCell c) () 7) ∗ ownAny F c (slotM p1M c) ∗ ownAny F c (slotM p2M c) ∗ own c xM (xF m ρ c) ∗ own c kM (kF m ρ c) ∗ ow F c ((owedD 3 c 0 + owedD 1 c 0) + owedB c 6))
        ∗ ((semVal (barCell c) 0 ∗ (bigSep Finset.univ fun d => iprop(ownAny F d (slotM p1M c) ∗ ownAny F d (slotM p2M c))) ∗ own c xM (xF m ρ c) ∗ own c kM (kF m ρ c) ∗ ow F c (owedD 3 c 0 + owedD 1 c 0)) -∗ Φ ⟨accF m ρ c, movF m ρ c, tapF m ρ c⟩))
    ⊢ WP c (k0_part2 (F := F) xM (Memref.isWhole_whole _) kM (Memref.isWhole_whole _) wM (Memref.isWhole_whole _) outM (Memref.isWhole_whole _)
      partM (Memref.isWhole_whole _) redM (Memref.isWhole_whole _) srcM (Memref.isWhole_whole _) p1M (Memref.isWhole_whole _) p2M (Memref.isWhole_whole _)
      cc0_scratch5 cc0_scratch6 cc0_scratch7 cc0_scratch8 c (BitVec.ofNat 32 c.val) (SemArray.scalar (sig.barrier 0 rfl)) (Scalar.addi (BitVec.ofNat 32 c.val) 6#32) 8#32) Φ := by
  rw [k0_part2_eq_skeleton]
  unfold k0_part2_skel Sig accF movF tapF
  iintro ⟨#HR, ⟨G6, G7, HA, HC, H1, H2, Hx, Hw, HO⟩, Hk⟩
  icases G6 with ⟨G6, E6, F6⟩
  iapply (step_signal m ρ K c 6 (by decide) _ (peer_eq c 6 (k0_dev6_eq c)) 1#32 (by decide) (owedD 3 c 0 + owedD 1 c 0))
  iframe HR HO G6 E6 F6
  iintro HO
  icases G7 with ⟨G7, E7, F7⟩
  iapply (step_signal m ρ K c 7 (by decide) _ (peer_eq c 7 (k0_dev7_eq c)) 1#32 (by decide) (owedD 3 c 0 + owedD 1 c 0))
  iframe HR HO G7 E7 F7
  iintro HO
  ihave HO := (Entails.of_eq (congrArg (ow F c) (show (owedD 3 c 0 + owedD 1 c 0) + owedB c 8 = owedD 3 c 0 + owedD 1 c 0 by rw [owedB_end, add_zero]))) $$ [HO]
  · iexact HO
  iapply (step_barrier m ρ K c 7#32 (by decide) (owedD 3 c 0 + owedD 1 c 0) (((above_owedD3 c 0).mono (by decide)).add (above_owedD1 c 0)))
  iframe HR HO HA HC H1 H2
  iintro ⟨HO, Hz, HG⟩
  iapply (step_load_all c xM (xF m ρ c) (xF m ρ c) (fun f hf => (Memref.readAt_unit_zero (Elt F) cc0_stg0_0 zero3 _ f).trans (show f = xF m ρ c from hf)))
  iframe Hx
  iintro Hx
  iapply (step_load_all c kM (kF m ρ c) (kF m ρ c) (fun f hf => (Memref.readAt_unit_zero (Elt F) cc0_stg1_0 zero2 _ f).trans (show f = kF m ρ c from hf)))
  iframe Hw
  iintro Hw
  iapply (step_pure c)
  iapply Hk
  iframe Hz HG Hx Hw HO

/-! ## The body whole -/

/-- What the body takes besides the buffers: the own barrier's position and receipts, the tokens of the seven signals, of the
    fourteen sends and of their receipts, and each entry's position and receipt. -/
def Fuel (F : FTy → Type) (c : Dev nD) : sProp (MT nD τ sig Unit (Elt F) ℕ UU ℕ) :=
  iprop(atPos ER (barCell c) 0 ∅ 0 ∗ cred (tallyAt (barCell c) () 7)
    ∗ (bigSep Finset.univ fun j => if j = c then iprop(emp) else dutyTok ER (barCell j) 0 c)
    ∗ (bigSep Finset.univ fun j => if j = c then iprop(emp) else iprop(dutyTok ER (dCell 0 c j) 0 j ∗ dutyTok ER (dCell 1 j c) 0 c))
    ∗ (bigSep Finset.univ fun j => if j = c then iprop(emp) else iprop(dutyTok ER (dCell 2 c j) 0 j ∗ dutyTok ER (dCell 3 j c) 0 c))
    ∗ (bigSep Finset.univ fun j => Wt F 1 c j) ∗ (bigSep Finset.univ fun j => Wt F 3 c j)
    ∗ (bigSep Finset.univ fun j => pos F 0 c j) ∗ (bigSep Finset.univ fun j => pos F 2 c j))

/-- The five scratch buffers at any contents. -/
def Scratch (F : FTy → Type) (c : Dev nD) : sProp (MT nD τ sig Unit (Elt F) ℕ UU ℕ) :=
  iprop(ownAny F c partM ∗ ownAny F c redM ∗ ownAny F c srcM ∗ ownAny F c p1M ∗ ownAny F c p2M)

/-- Every cell of the device closed at zero. -/
def Cleared (F : FTy → Type) (c : Dev nD) : sProp (MT nD τ sig Unit (Elt F) ℕ UU ℕ) :=
  iprop(semVal (barCell c) 0 ∗ (bigSep Finset.univ fun j => clr F 0 c j) ∗ (bigSep Finset.univ fun j => clr F 1 c j)
    ∗ (bigSep Finset.univ fun j => clr F 2 c j) ∗ (bigSep Finset.univ fun j => clr F 3 c j))

/-- The devices counted on from `c`. -/
theorem rot_eight (c : Dev nD) (Φ : Dev nD → sProp 𝕄) :
    bigSep Finset.univ Φ = iprop(Φ (rot c 0) ∗ Φ (rot c 1) ∗ Φ (rot c 2) ∗ Φ (rot c 3) ∗ Φ (rot c 4) ∗ Φ (rot c 5) ∗ Φ (rot c 6) ∗ Φ (rot c 7)) :=
  bigSep_univ_eq_bigSepL [rot c 0, rot c 1, rot c 2, rot c 3, rot c 4, rot c 5, rot c 6, rot c 7] (by revert c; decide) (by revert c; decide) Φ

theorem rot_zero (c : Dev nD) : rot c 0 = c := by revert c; decide

/-- The slots to be signalled away, each with its token. -/
def Gv (F : FTy → Type) (c j : Dev nD) : sProp (MT nD τ sig Unit (Elt F) ℕ UU ℕ) :=
  iprop((if j = c then iprop(emp) else dutyTok ER (barCell j) 0 c) ∗ ownAny F c (slotM p1M j) ∗ ownAny F c (slotM p2M j))

theorem gv_sig (c j : Dev nD) (h : j ≠ c) : (Gv F c j : sProp 𝕄) = Sig F c j := by unfold Gv Sig; rw [if_neg h]

theorem gv_self (c : Dev nD) : (Gv F c (rot c 0) : sProp 𝕄) ⊢ iprop(ownAny F c (slotM p1M c) ∗ ownAny F c (slotM p2M c)) := by
  rw [rot_zero]
  unfold Gv
  rw [if_pos rfl]
  iintro ⟨-, H⟩
  iexact H

theorem give_eq (c : Dev nD) : (bigSep Finset.univ fun j => Gv F c j : sProp 𝕄)
    = iprop(Gv F c (rot c 0) ∗ Sig F c (rot c 1) ∗ Sig F c (rot c 2) ∗ Sig F c (rot c 3) ∗ Sig F c (rot c 4) ∗ Sig F c (rot c 5) ∗ Sig F c (rot c 6) ∗ Sig F c (rot c 7)) := by
  rw [rot_eight c, gv_sig c (rot c 1) (by revert c; decide), gv_sig c (rot c 2) (by revert c; decide), gv_sig c (rot c 3) (by revert c; decide),
    gv_sig c (rot c 4) (by revert c; decide), gv_sig c (rot c 5) (by revert c; decide), gv_sig c (rot c 6) (by revert c; decide), gv_sig c (rot c 7) (by revert c; decide)]

theorem give (c : Dev nD) :
    iprop((bigSep Finset.univ fun j => if j = c then iprop(emp) else dutyTok ER (barCell j) 0 c) ∗ ownAny F c p1M ∗ ownAny F c p2M)
      ⊢ (iprop((ownAny F c (slotM p1M c) ∗ ownAny F c (slotM p2M c)) ∗ Sig F c (rot c 1) ∗ Sig F c (rot c 2) ∗ Sig F c (rot c 3) ∗ Sig F c (rot c 4)
        ∗ Sig F c (rot c 5) ∗ Sig F c (rot c 6) ∗ Sig F c (rot c 7)) : sProp 𝕄) := by
  have e : (bigSep Finset.univ fun j => Gv F c j : sProp 𝕄)
      = iprop((bigSep Finset.univ fun j => if j = c then iprop(emp) else dutyTok ER (barCell j) 0 c)
        ∗ (bigSep Finset.univ fun j => ownAny F c (slotM p1M j)) ∗ bigSep Finset.univ fun j => ownAny F c (slotM p2M j)) := by
    unfold Gv; rw [bigSep_sep', bigSep_sep']
  iintro ⟨HT, H1, H2⟩
  ihave H1 := (cut_slots p1M c) $$ H1
  ihave H2 := (cut_slots p2M c) $$ H2
  ihave ⟨H0, H⟩ := (Entails.of_eq (e.symm.trans (give_eq c))) $$ [HT H1 H2]
  · iframe HT H1 H2
  ihave H0 := (gv_self c) $$ H0
  iframe H0 H

/-- The peers' slots with the tokens of the sends into them. -/
theorem take (c : Dev nD) :
    iprop((bigSep Finset.univ fun d => iprop(ownAny F d (slotM p1M c) ∗ ownAny F d (slotM p2M c)))
        ∗ (bigSep Finset.univ fun j => if j = c then iprop(emp) else iprop(dutyTok ER (dCell 0 c j) 0 j ∗ dutyTok ER (dCell 1 j c) 0 c))
        ∗ (bigSep Finset.univ fun j => if j = c then iprop(emp) else iprop(dutyTok ER (dCell 2 c j) 0 j ∗ dutyTok ER (dCell 3 j c) 0 c)))
      ⊢ (iprop((bigSep Finset.univ fun j => Pre1 F c j) ∗ bigSep Finset.univ fun j => Pre2 F c j) : sProp 𝕄) := by
  unfold Pre1 Pre2
  rw [bigSep_sep', bigSep_sep', bigSep_sep']
  iintro ⟨⟨H1, H2⟩, T1, T2⟩
  iframe H1 H2 T1 T2

/-- Everything about block `j` together again. -/
theorem fin_both (c j : Dev nD) :
    iprop(Fin3 m ρ c j ∗ Fin0 m ρ c j)
      ⊢ (iprop(own c (blkM j) (outB m ρ c j) ∗ ownAny F c (slotM partM j) ∗ srcShare m ρ c j ∗ ownAny F c (slotM p2M j)) : sProp 𝕄) := by
  unfold Fin3 Fin0
  by_cases h : j = c
  · rw [if_pos h, if_pos h]
    iintro ⟨⟨HB, -⟩, HP, HS, H2⟩
    iframe HB HS H2
    iexists _; iexact HP
  · rw [if_neg h, if_neg h]
    iintro ⟨⟨HB, H2⟩, HP, HS, -⟩
    iframe HB HS H2
    iexists _; iexact HP

theorem finish (c : Dev nD) :
    iprop((bigSep Finset.univ fun j => Fin3 m ρ c j) ∗ bigSep Finset.univ fun j => Fin0 m ρ c j)
      ⊢ (iprop(own c outM (outF m ρ c) ∗ ownAny F c partM ∗ ownAny F c srcM ∗ ownAny F c p2M) : sProp 𝕄) := by
  have e : iprop((bigSep Finset.univ fun j => Fin3 m ρ c j) ∗ bigSep Finset.univ fun j => Fin0 m ρ c j)
      ⊢ (iprop((bigSep Finset.univ fun j => own c (blkM j) (outB m ρ c j)) ∗ (bigSep Finset.univ fun j => ownAny F c (slotM partM j))
        ∗ (bigSep Finset.univ fun j => srcShare m ρ c j) ∗ bigSep Finset.univ fun j => ownAny F c (slotM p2M j)) : sProp 𝕄) := by
    rw [← bigSep_sep']
    refine (bigSep_mono fun j _ => fin_both m ρ c j).trans ?_
    rw [bigSep_sep', bigSep_sep', bigSep_sep']
    exact BI.Entails.refl _
  iintro H
  ihave ⟨HB, HP, HS, H2⟩ := e $$ H
  ihave HB := (join_out m ρ c) $$ HB
  ihave HP := (join_slots_any partM c) $$ HP
  ihave HS := (Entails.of_eq (src_shares m ρ c).symm) $$ HS
  ihave H2 := (join_slots_any p2M c) $$ H2
  iframe HB HP H2
  iexists _; iexact HS

theorem body_spec (c : Dev nD) {Φ} :
    iprop(recs m ρ K ∗ (own c xM (xF m ρ c) ∗ own c kM (kF m ρ c) ∗ own c wM (wF m ρ c) ∗ ownAny F c outM ∗ Scratch F c ∗ Fuel F c ∗ ow F c (O₀ c))
        ∗ ((own c xM (xF m ρ c) ∗ own c kM (kF m ρ c) ∗ own c wM (wF m ρ c) ∗ own c outM (outF m ρ c) ∗ Scratch F c ∗ Cleared F c ∗ ow F c 0) -∗ Φ ⟨⟩))
    ⊢ WP c (cc0_body (F := F) xM (Memref.isWhole_whole _) kM (Memref.isWhole_whole _) wM (Memref.isWhole_whole _) outM (Memref.isWhole_whole _)
      partM (Memref.isWhole_whole _) redM (Memref.isWhole_whole _) srcM (Memref.isWhole_whole _) p1M (Memref.isWhole_whole _) p2M (Memref.isWhole_whole _)
      cc0_scratch5 cc0_scratch6 cc0_scratch7 cc0_scratch8) Φ := by
  rw [cc0_body_eq_skeleton]
  unfold cc0_body_skel Scratch Fuel O₀ Cleared
  iintro ⟨#HR, ⟨Hx, Hk, Hw, Hout, ⟨Hpart, Hred, Hsrc, Hp1, Hp2⟩, ⟨HA, HC, HT, HT1, HT2, HW1, HW3, HP0, HP2⟩, HO⟩, HΦ⟩
  ihave ⟨⟨H1, H2⟩, G1, G2, G3, G4, G5, G6, G7⟩ := (give c) $$ [HT Hp1 Hp2]
  · iframe HT Hp1 Hp2
  iapply (step_bind c)
  iapply (part1_spec m ρ K c (owedD 3 c 0 + owedD 1 c 0))
  iframe HR G1 G2 G3 G4 G5 HO
  iintro HO
  iapply (step_bind c)
  iapply (part2_spec m ρ K c)
  iframe HR G6 G7 HA HC H1 H2 Hx Hk HO
  iintro ⟨Hz, HG, Hx, Hk, HO⟩
  ihave ⟨HG1, HG2⟩ := (take c) $$ [HG HT1 HT2]
  · iframe HG HT1 HT2
  ihave ⟨P0, P1, P2, P3, P4, P5, P6, P7⟩ := (Entails.of_eq (eight (fun j => Pre1 F c j))) $$ HG1
  ihave ⟨Q0, Q1, Q2, Q3, Q4, Q5, Q6, Q7⟩ := (Entails.of_eq (eight (fun j => Pre2 F c j))) $$ HG2
  ihave Hpart := (cut_slots partM c) $$ Hpart
  ihave ⟨A0, A1, A2, A3, A4, A5, A6, A7⟩ := (Entails.of_eq (eight (fun j => ownAny F c (slotM partM j)))) $$ Hpart
  iapply (step_bind c)
  iapply (part3_spec m ρ K c (owedD 3 c 0))
  iframe HR Hw A0 A1 P0 P1 HO
  iintro ⟨Hw, D0, D1, HO⟩
  iapply (step_bind c)
  iapply (part4_spec m ρ K c (owedD 3 c 0))
  iframe HR A2 A3 A4 P2 P3 P4 HO
  iintro ⟨D2, D3, M4, HO⟩
  iapply (step_bind c)
  iapply (part5_spec m ρ K c (owedD 3 c 0))
  iframe HR M4 A5 A6 A7 P5 P6 HO
  iintro %v ⟨D4, D5, D6, A7, HO⟩
  ihave ⟨W0, W1, W2, W3, W4, W5, W6, W7⟩ := (Entails.of_eq (eight (fun j => Wt F 1 c j))) $$ HW1
  iapply (step_bind c)
  iapply (part6_spec m ρ K c (owedD 3 c 0) (above_owedD3 c 0) v)
  iframe HR D0 D1 D2 D3 D4 D5 D6 A7 P7 W0 W1 W2 W3 W4 W5 W6 HO
  iintro ⟨L0, R0, C0, L1, R1, C1, L2, R2, C2, L3, R3, C3, L4, R4, C4, L5, R5, C5, L6, R6, C6, D7, HO⟩
  iapply (step_bind c)
  iapply (part7_spec m ρ K c)
  iframe HR D7 W7 R0 R1 R2 R3 R4 R5 R6 Hred Hsrc Q0 Q1 Q2 Q3 Q4 HO
  iintro ⟨L7, C7, Hp1, Hred, S5, S6, S7, M0, M1, M2, M3, M4, HO⟩
  ihave HC1 := (Entails.of_eq (eight (fun j => clr F 1 c j)).symm) $$ [C0 C1 C2 C3 C4 C5 C6 C7]
  · iframe C0 C1 C2 C3 C4 C5 C6 C7
  ihave ⟨V0, V1, V2, V3, V4, V5, V6, V7⟩ := (Entails.of_eq (eight (fun j => Wt F 3 c j))) $$ HW3
  ihave Hout := (cut_out c) $$ Hout
  ihave ⟨B0, B1, B2, B3, B4, B5, B6, B7⟩ := (Entails.of_eq (eight (fun j => ownAny F c (blkM j)))) $$ Hout
  iapply (step_bind c)
  iapply (part8_spec m ρ K c)
  iframe HR S5 S6 S7 Q5 Q6 Q7 Hred V0 V1 V2 V3 B0 B1 B2 B3 HO
  iintro ⟨M5, M6, M7, ⟨B0, C0⟩, ⟨B1, C1⟩, ⟨B2, C2⟩, B3, C3, Hred, HO⟩
  ihave ⟨T0, T1, T2, T3, T4, T5, T6, T7⟩ := (Entails.of_eq (eight (fun j => pos F 0 c j))) $$ HP0
  ihave ⟨U0, U1, U2, U3, U4, U5, U6, U7⟩ := (Entails.of_eq (eight (fun j => pos F 2 c j))) $$ HP2
  iapply (step_bind c)
  iapply (part9_spec m ρ K c)
  iframe HR Hred B3 V4 V5 V6 V7 B4 B5 B6 B7 L0 M0 T0 U0 HO
  iintro ⟨Hred, B3, ⟨B4, C4⟩, ⟨B5, C5⟩, ⟨B6, C6⟩, ⟨B7, C7⟩, Z0, X0, Y0, HO⟩
  ihave HC3 := (Entails.of_eq (eight (fun j => clr F 3 c j)).symm) $$ [C0 C1 C2 C3 C4 C5 C6 C7]
  · iframe C0 C1 C2 C3 C4 C5 C6 C7
  iapply (step_collect m ρ K c 1 _ (other_cond c 1) _ (entry0 1 rfl) _ (slotM partM 1) rfl _ (entry2 1 rfl) _ srcM rfl)
  iframe HR L1 M1 T1 U1 HO
  iintro ⟨Z1, X1, Y1, HO⟩
  iapply (step_collect m ρ K c 2 _ (other_cond c 2) _ (entry0 2 rfl) _ (slotM partM 2) rfl _ (entry2 2 rfl) _ srcM rfl)
  iframe HR L2 M2 T2 U2 HO
  iintro ⟨Z2, X2, Y2, HO⟩
  iapply (step_collect m ρ K c 3 _ (other_cond c 3) _ (entry0 3 rfl) _ (slotM partM 3) rfl _ (entry2 3 rfl) _ srcM rfl)
  iframe HR L3 M3 T3 U3 HO
  iintro ⟨Z3, X3, Y3, HO⟩
  iapply (step_collect m ρ K c 4 _ (other_cond c 4) _ (entry0 4 rfl) _ (slotM partM 4) rfl _ (entry2 4 rfl) _ srcM rfl)
  iframe HR L4 M4 T4 U4 HO
  iintro ⟨Z4, X4, Y4, HO⟩
  iapply (step_collect m ρ K c 5 _ (other_cond c 5) _ (entry0 5 rfl) _ (slotM partM 5) rfl _ (entry2 5 rfl) _ srcM rfl)
  iframe HR L5 M5 T5 U5 HO
  iintro ⟨Z5, X5, Y5, HO⟩
  iapply (step_collect m ρ K c 6 _ (other_cond c 6) _ (entry0 6 rfl) _ (slotM partM 6) rfl _ (entry2 6 rfl) _ srcM rfl)
  iframe HR L6 M6 T6 U6 HO
  iintro ⟨Z6, X6, Y6, HO⟩
  iapply (step_collect m ρ K c 7 _ (other_cond c 7) _ (entry0 7 rfl) _ (slotM partM 7) rfl _ (entry2 7 rfl) _ srcM rfl)
  iframe HR L7 M7 T7 U7 HO
  iintro ⟨Z7, X7, Y7, HO⟩
  ihave HC0 := (Entails.of_eq (eight (fun j => clr F 0 c j)).symm) $$ [X0 X1 X2 X3 X4 X5 X6 X7]
  · iframe X0 X1 X2 X3 X4 X5 X6 X7
  ihave HC2 := (Entails.of_eq (eight (fun j => clr F 2 c j)).symm) $$ [Y0 Y1 Y2 Y3 Y4 Y5 Y6 Y7]
  · iframe Y0 Y1 Y2 Y3 Y4 Y5 Y6 Y7
  ihave HB := (Entails.of_eq (eight (fun j => Fin3 m ρ c j)).symm) $$ [B0 B1 B2 B3 B4 B5 B6 B7]
  · iframe B0 B1 B2 B3 B4 B5 B6 B7
  ihave HZ := (Entails.of_eq (eight (fun j => Fin0 m ρ c j)).symm) $$ [Z0 Z1 Z2 Z3 Z4 Z5 Z6 Z7]
  · iframe Z0 Z1 Z2 Z3 Z4 Z5 Z6 Z7
  ihave ⟨Hout, Hpart, Hsrc, Hp2⟩ := (finish m ρ c) $$ [HB HZ]
  · iframe HB HZ
  iapply (step_pure c)
  iapply HΦ
  iframe Hx Hk Hw Hout Hpart Hsrc Hp2 Hz HC0 HC1 HC2 HC3 HO
  isplitl [Hred]
  · iexists _; iexact Hred
  iexists _; iexact Hp1

end Cert.KernelIdealRun

end
-- ==== Proof.KernelIdealRun.Deal.lean ====
/-
# What the launch hands out

The tokens and positions minted for every cell, sorted by the device that uses them, and the receipts matching what the
devices owe one another.
-/
module

public import proofs.«01_k».proof.Proof.KernelIdealRun.Protocol

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sorting by cell -/

/-- Everything about a device's cells: the barrier's, and the four arrays'. -/
theorem by_cell (Φ : CK → sProp 𝕄) :
    bigSep Finset.univ Φ = iprop(Φ none ∗ (bigSep Finset.univ fun j => Φ (some (0, j))) ∗ (bigSep Finset.univ fun j => Φ (some (1, j)))
      ∗ (bigSep Finset.univ fun j => Φ (some (2, j))) ∗ bigSep Finset.univ fun j => Φ (some (3, j))) := by
  have e : (Finset.univ : Finset CK).erase none = Finset.univ.map Function.Embedding.some := by
    ext a; cases a <;> simp
  rw [bigSep_erase (Finset.mem_univ (none : CK)), e, bigSep_map, bigSep_univ_prod,
    bigSep_univ_eq_bigSepL [0, 1, 2, 3] (by decide) (by decide) (fun q : Fin 4 => bigSep Finset.univ fun j : Dev nD => Φ (Function.Embedding.some (q, j)))]
  rfl

/-- Pairs of devices read the other way round. -/
theorem swap (Φ : Dev nD → Dev nD → sProp 𝕄) :
    (bigSep Finset.univ fun c => bigSep Finset.univ fun j => Φ c j) = bigSep Finset.univ fun c => bigSep Finset.univ fun j => Φ j c := by
  rw [← bigSep_univ_prod (fun p : Dev nD × Dev nD => Φ p.1 p.2), ← bigSep_univ_prod (fun p : Dev nD × Dev nD => Φ p.2 p.1),
    bigSep_univ_equiv (Equiv.prodComm (Dev nD) (Dev nD)) (fun p : Dev nD × Dev nD => Φ p.1 p.2)]
  rfl

/-! ## The minted tokens -/

def runCells : Finset (GSem nD τ sig) := Finset.univ.map ⟨fun ca : Dev nD × CK => cell ca.1 ca.2, cell_injective⟩

/-- A token: the cell's device, the barrier or one of the four arrays, and the paying device. -/
def tokOf (x : Dev nD × (Option (Fin 4) × Dev nD)) : GSem nD τ sig × ℕ × Dev nD := (cell x.1 (x.2.1.map fun q => (q, x.2.2)), 0, x.2.2)
theorem tokOf_injective : Function.Injective tokOf := by
  rintro ⟨c, a, d⟩ ⟨c', a', d'⟩ h
  have h1 : d = d' := congrArg (fun x : GSem nD τ sig × ℕ × Dev nD => x.2.2) h
  subst h1
  have h2 := cell_eq_iff.mp (congrArg (fun x : GSem nD τ sig × ℕ × Dev nD => x.1) h)
  have h3 : a = a' := Option.map_injective (fun q q' e => congrArg Prod.fst e) h2.2
  have h4 : c = c' := h2.1
  rw [h4, h3]
def runToks : Finset (GSem nD τ sig × ℕ × Dev nD) := Finset.univ.map ⟨tokOf, tokOf_injective⟩

/-- The tokens device `c` pays with. -/
def payToks (F : FTy → Type) (c : Dev nD) : sProp (MT nD τ sig Unit (Elt F) ℕ UU ℕ) :=
  iprop((bigSep Finset.univ fun j => dutyTok ER (barCell j) 0 c)
    ∗ (bigSep Finset.univ fun j => dutyTok ER (dCell 0 c j) 0 j) ∗ (bigSep Finset.univ fun j => dutyTok ER (dCell 1 j c) 0 c)
    ∗ (bigSep Finset.univ fun j => dutyTok ER (dCell 2 c j) 0 j) ∗ (bigSep Finset.univ fun j => dutyTok ER (dCell 3 j c) 0 c))

theorem toks_sorted : (bigSep runToks fun x => (dutyTok ER x.1 x.2.1 x.2.2 : sProp 𝕄)) = bigSep Finset.univ fun c => payToks F c := by
  have e : (bigSep runToks fun x => (dutyTok ER x.1 x.2.1 x.2.2 : sProp 𝕄)) = bigSep Finset.univ fun c : Dev nD =>
      iprop((bigSep Finset.univ fun j => dutyTok ER (barCell c) 0 j) ∗ (bigSep Finset.univ fun j => dutyTok ER (dCell 0 c j) 0 j)
        ∗ (bigSep Finset.univ fun j => dutyTok ER (dCell 1 c j) 0 j) ∗ (bigSep Finset.univ fun j => dutyTok ER (dCell 2 c j) 0 j)
        ∗ (bigSep Finset.univ fun j => dutyTok ER (dCell 3 c j) 0 j)) := by
    unfold runToks
    rw [bigSep_map, bigSep_univ_prod]
    refine bigSep_congr fun c _ => ?_
    rw [bigSep_univ_prod, bigSep_univ_eq_bigSepL [none, some 0, some 1, some 2, some 3] (by decide) (by decide)]
    rfl
  unfold payToks
  rw [e, bigSep_sep', bigSep_sep', bigSep_sep', bigSep_sep', bigSep_sep', bigSep_sep', bigSep_sep', bigSep_sep',
    swap (fun c j => (dutyTok ER (barCell c) 0 j : sProp 𝕄)), swap (fun c j => (dutyTok ER (dCell 1 c j) 0 j : sProp 𝕄)),
    swap (fun c j => (dutyTok ER (dCell 3 c j) 0 j : sProp 𝕄))]

/-! ## The receipts -/

theorem tally_cell (c c' : Dev nD) (a a' : CK) (n : ℕ) :
    (tallyAt (cell c a) () n : CellTallies nD τ sig Unit) (cell c' a') () = if c' = c ∧ a' = a then n else 0 := by
  rw [tallyAt_apply]
  by_cases h : c' = c ∧ a' = a
  · rw [if_pos h, if_pos ⟨cell_eq_iff.mpr h, rfl⟩]
  · rw [if_neg h, if_neg fun h' => h (cell_eq_iff.mp h'.1)]

theorem owedB_at (d c : Dev nD) (a : CK) : owedB d 1 (cell c a) () = if a = none ∧ d ≠ c then 1 else 0 := by
  unfold owedB
  rw [Finset.sum_apply, Finsupp.finset_sum_apply, Finset.sum_congr rfl fun r _ => show (tallyAt (barCell (rot d r)) () 1 : CellTallies nD τ sig Unit) (cell c a) () = _ from tally_cell (rot d r) c none a 1]
  cases a with
  | none =>
    simp only [and_true, true_and]
    revert d c; decide
  | some p =>
    rw [if_neg fun h => absurd h.1 (by simp)]
    exact Finset.sum_eq_zero fun r _ => if_neg fun h => absurd h.2 (by simp)

theorem owedD_at (q : Fin 4) (d c : Dev nD) (a : CK) : owedD q d 0 (cell c a) () = if a = some (q, d) ∧ d ≠ c then N else 0 := by
  unfold owedD
  rw [Finset.sum_apply, Finsupp.finset_sum_apply, Finset.sum_congr rfl fun k _ => show (tallyAt (dCell q k d) () N : CellTallies nD τ sig Unit) (cell c a) () = _ from tally_cell k c (some (q, d)) a N]
  by_cases h : a = some (q, d) ∧ d ≠ c
  · rw [if_pos h, Finset.sum_eq_single c]
    · exact if_pos ⟨rfl, h.1⟩
    · exact fun k _ hk => if_neg fun h' => hk h'.1.symm
    · exact fun hc => absurd (Finset.mem_filter.mpr ⟨Finset.mem_univ c, Nat.zero_le _, fun e => h.2 e.symm⟩) hc
  · rw [if_neg h]
    refine Finset.sum_eq_zero fun k hk => if_neg fun h' => h ⟨h'.2, fun e => (Finset.mem_filter.mp hk).2.2 ?_⟩
    rw [e, h'.1]

theorem owed_at (d c : Dev nD) (a : CK) : O₀ d (cell c a) ()
    = ((if a = some (3, d) ∧ d ≠ c then N else 0) + (if a = some (1, d) ∧ d ≠ c then N else 0)) + (if a = none ∧ d ≠ c then 1 else 0) := by
  unfold O₀
  rw [Pi.add_apply, Finsupp.add_apply, Pi.add_apply, Finsupp.add_apply, owedD_at, owedD_at, owedB_at]

/-- The receipt for a cell is what all devices owe it. -/
theorem launch_at (c : Dev nD) (a : CK) (n : ℕ) (h : ∑ d : Dev nD, O₀ d (cell c a) () = n) :
    tallyOn (cell c a) (launchCredit (Pipeline.owing O₀) 0 (cell c a)) = (tallyAt (cell c a) () n : CellTallies nD τ sig Unit) := by
  unfold tallyAt; refine congrArg _ (Finsupp.ext fun u => ?_); cases u
  rw [Pipeline.launchCredit_owing, Finsupp.single_eq_same, h]

theorem launch_bar (c : Dev nD) :
    tallyOn (barCell c) (launchCredit (Pipeline.owing O₀) 0 (barCell c)) = (tallyAt (barCell c) () 7 : CellTallies nD τ sig Unit) := by
  refine launch_at c none 7 ?_
  rw [Finset.sum_congr rfl fun d _ => owed_at d c none]
  simp only [reduceCtorEq, false_and, if_false, Nat.zero_add, true_and]
  revert c; decide

theorem launch_dma (q : Fin 4) (hq : q = 1 ∨ q = 3) (c j : Dev nD) (hj : j ≠ c) :
    tallyOn (dCell q c j) (launchCredit (Pipeline.owing O₀) 0 (dCell q c j)) = (tallyAt (dCell q c j) () N : CellTallies nD τ sig Unit) := by
  refine launch_at c (some (q, j)) N ?_
  rw [Finset.sum_congr rfl fun d _ => owed_at d c (some (q, j)), Finset.sum_eq_single j]
  · rcases hq with rfl | rfl
    · rw [if_neg (fun h => absurd (show (1 : Fin 4) = 3 from congrArg Prod.fst (Option.some.inj h.1)) (by decide)), if_pos ⟨rfl, hj⟩, if_neg (fun h => absurd h.1 (by simp)), Nat.zero_add, Nat.add_zero]
    · rw [if_pos ⟨rfl, hj⟩, if_neg (fun h => absurd (show (3 : Fin 4) = 1 from congrArg Prod.fst (Option.some.inj h.1)) (by decide)), if_neg (fun h => absurd h.1 (by simp)), Nat.add_zero]
  · intro d _ hd
    have hs (q' : Fin 4) : ¬ ((some (q, j) : CK) = some (q', d) ∧ d ≠ c) := fun h => hd (congrArg Prod.snd (Option.some.inj h.1)).symm
    rw [if_neg (hs 3), if_neg (hs 1), if_neg (fun h => absurd h.1 (by simp)), Nat.add_zero]
  · exact fun h => absurd (Finset.mem_univ j) h

theorem cred_of (c j : Dev nD) (q : Fin 4) (hq : q = 1 ∨ q = 3) :
    (cred (tallyOn (dCell q c j) (launchCredit (Pipeline.owing O₀) 0 (dCell q c j))) : sProp 𝕄)
      ⊢ if j = c then iprop(emp) else cred (tallyAt (dCell q c j) () N) := by
  by_cases h : j = c
  · rw [if_pos h]; iintro -; iempintro
  · rw [if_neg h, launch_dma q hq c j h]

theorem creds_of (c : Dev nD) (q : Fin 4) (hq : q = 1 ∨ q = 3) :
    (bigSep Finset.univ fun j => (cred (tallyOn (cell c (some (q, j))) (launchCredit (Pipeline.owing O₀) 0 (cell c (some (q, j))))) : sProp 𝕄))
      ⊢ bigSep Finset.univ fun j => if j = c then iprop(emp) else cred (tallyAt (dCell q c j) () N) :=
  bigSep_mono fun j _ => cred_of c j q hq

/-- The receipts device `c` starts with. -/
theorem creds (c : Dev nD) :
    (Pipeline.launchCred O₀ c : sProp 𝕄) ⊢ iprop(cred (tallyAt (barCell c) () 7)
      ∗ (bigSep Finset.univ fun j => if j = c then iprop(emp) else cred (tallyAt (dCell 1 c j) () N))
      ∗ (bigSep Finset.univ fun j => if j = c then iprop(emp) else cred (tallyAt (dCell 3 c j) () N))) := by
  have e : (bigSep (Finset.univ.map ⟨csem, csem_injective⟩) fun sm : SemLoc sig =>
        (cred (tallyOn ((c : Thread nD τ), sm) (launchCredit (Pipeline.owing O₀) 0 ((c : Thread nD τ), sm))) : sProp 𝕄))
      = bigSep Finset.univ fun a : CK => cred (tallyOn (cell c a) (launchCredit (Pipeline.owing O₀) 0 (cell c a))) := bigSep_map _
  have e' : (Pipeline.launchCred O₀ c : sProp 𝕄) ⊢ bigSep (Finset.univ.map ⟨csem, csem_injective⟩) fun sm : SemLoc sig =>
        (cred (tallyOn ((c : Thread nD τ), sm) (launchCredit (Pipeline.owing O₀) 0 ((c : Thread nD τ), sm))) : sProp 𝕄) := by
    unfold Pipeline.launchCred
    exact bigSep_subset (Finset.subset_univ _)
  iintro H
  ihave H := e' $$ H
  ihave H := (Entails.of_eq (e.trans (by_cell _))) $$ H
  icases H with ⟨HB, -, H1, -, H3⟩
  ihave HB := (show (cred (tallyOn (cell c none) (launchCredit (Pipeline.owing O₀) 0 (cell c none))) : sProp 𝕄) ⊢ cred (tallyAt (barCell c) () 7)
    from Entails.of_eq (congrArg (fun x => (cred x : sProp 𝕄)) (launch_bar c))) $$ HB
  ihave H1 := (creds_of (F := F) c 1 (Or.inl rfl)) $$ H1
  ihave H3 := (creds_of (F := F) c 3 (Or.inr rfl)) $$ H3
  iframe HB H1 H3

end Cert.KernelIdealRun

end
-- ==== Proof.KernelIdealRun.Run.lean ====
/-
# The run

What the pipeline needs to know of the region, the body's obligation, the launch on the eight devices, and the run: every
device's result array ends at the exchanged sums, its arguments as they were, every semaphore at zero.
-/
module

public import proofs.«01_k».proof.Proof.Gen.KernelIdeal.Points
public import proofs.«01_k».proof.Proof.KernelIdealRun.Body
public import proofs.«01_k».proof.Proof.KernelIdealRun.Deal
public import Idealize.ShloMosaic.Lib.Pipeline.CollectiveSegs

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What a device starts from: the shared records and its own tokens, positions and receipts. -/
def start (c : Dev nD) : sProp 𝕄 := iprop(∃ K, recs m ρ K ∗ Fuel F c)

def Φ₀ (c : Dev nD) : sProp 𝕄 := iprop(start m ρ c ∗ Scratch F c)
def Φ₁ (F : FTy → Type) (c : Dev nD) : sProp (MT nD τ sig Unit (Elt F) ℕ UU ℕ) := iprop(Scratch F c ∗ Cleared F c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xF m ρ c
    | ⟨1, _⟩ => kF m ρ c
    | ⟨2, _⟩ => wF m ρ c
    | ⟨3, _⟩ => outF m ρ c
  Φ t := match t with
    | ⟨0, _⟩ => Φ₀ m ρ c
    | ⟨_ + 1, _⟩ => Φ₁ F c
  q _ := fullShare
  owed t := match t with
    | ⟨0, _⟩ => O₀ c
    | ⟨_ + 1, _⟩ => 0

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem own_stg (c : Dev nD) (b : Ref sig .tc) (X : b.ty.Contents (Elt F)) :
    (owns (Ix := Unit) (Name := ℕ) (U := UU) (Lvl := ℕ) (c : Thread nD τ) (Memref.whole b) fullShare X : sProp 𝕄) = stg c b X :=
  owns_whole_eq (c : Thread nD τ) b fullShare X

def before' (c : Dev nD) : sProp 𝕄 :=
  iprop(Φ₀ m ρ c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
def after' (c : Dev nD) : sProp 𝕄 :=
  iprop(Φ₁ F c ∗ (dats m ρ 0 c).owesAt () t0_0.succ
    ∗ stg c cc0_stg0_0 (xF m ρ c) ∗ stg c cc0_stg1_0 (kF m ρ c) ∗ stg c cc0_stg2_0 (wF m ρ c) ∗ stg c cc0_stg3_0 (outF m ρ c))

theorem fetched_x (c : Dev nD) (d) : (dats m ρ 0 c).before (0 : Fin 4) t0_0 d = xF m ρ c := by
  unfold Dat.before; rw [if_pos (fetch0_0 t0_0)]; rfl
theorem fetched_k (c : Dev nD) (d) : (dats m ρ 0 c).before (1 : Fin 4) t0_0 d = kF m ρ c := by
  unfold Dat.before; rw [if_pos (fetch0_1 t0_0)]; rfl
theorem fetched_w (c : Dev nD) (d) : (dats m ρ 0 c).before (2 : Fin 4) t0_0 d = wF m ρ c := by
  unfold Dat.before; rw [if_pos (fetch0_2 t0_0)]; rfl

theorem owes_open (c : Dev nD) : ((dats m ρ 0 c).owesAt () t0_0.castSucc : sProp 𝕄) ⊢ ow F c (O₀ c) := by
  unfold Dat.owesAt Pipeline.owesWithin ow
  rw [show (dats m ρ 0 c).owed t0_0.castSucc = O₀ c from rfl]
  iintro ⟨%W, %hW, HO⟩
  iexists W; iexact HO
theorem owes_close (c : Dev nD) : ow F c 0 ⊢ ((dats m ρ 0 c).owesAt () t0_0.succ : sProp 𝕄) := by
  unfold Dat.owesAt Pipeline.owesWithin ow
  rw [show (dats m ρ 0 c).owed t0_0.succ = 0 from rfl]
  iintro ⟨%W, HO⟩
  iexists W
  isplitr
  · ipureintro; exact fun _ _ => Or.inl trivial
  iexact HO

set_option maxRecDepth 4000 in
theorem body_run (c : Dev nD) : before' m ρ c ⊢ WP c (cc0_body (F := F) xM (Memref.isWhole_whole _) kM (Memref.isWhole_whole _) wM (Memref.isWhole_whole _) outM (Memref.isWhole_whole _)
      partM (Memref.isWhole_whole _) redM (Memref.isWhole_whole _) srcM (Memref.isWhole_whole _) p1M (Memref.isWhole_whole _) p2M (Memref.isWhole_whole _)
      cc0_scratch5 cc0_scratch6 cc0_scratch7 cc0_scratch8) (fun _ => after' m ρ c) := by
  unfold before' Φ₀ start
  iintro ⟨⟨⟨%K, #HR, HF⟩, HS⟩, Ho, ⟨%d0, Hx⟩, ⟨%d1, Hk⟩, ⟨%d2, Hw⟩, ⟨%d3, Hout⟩⟩
  ihave HO := (owes_open m ρ c) $$ Ho
  ihave Hx := (Entails.of_eq ((congrArg (stg c cc0_stg0_0) (fetched_x m ρ c d0)).trans (own_stg c cc0_stg0_0 _).symm)) $$ Hx
  ihave Hk := (Entails.of_eq ((congrArg (stg c cc0_stg1_0) (fetched_k m ρ c d1)).trans (own_stg c cc0_stg1_0 _).symm)) $$ Hk
  ihave Hw := (Entails.of_eq ((congrArg (stg c cc0_stg2_0) (fetched_w m ρ c d2)).trans (own_stg c cc0_stg2_0 _).symm)) $$ Hw
  ihave Hout := (Entails.of_eq (own_stg c cc0_stg3_0 _).symm) $$ Hout
  iapply (body_spec m ρ K c)
  isplitr; · iexact HR
  isplitl [HF HS HO Hx Hk Hw Hout]
  · isplitl [Hx]; · iexact Hx
    isplitl [Hk]; · iexact Hk
    isplitl [Hw]; · iexact Hw
    isplitl [Hout]; · iexists _; iexact Hout
    iframe HS HF HO
  iintro ⟨Hx, Hk, Hw, Hout, HS, HC, HO⟩
  unfold after' Φ₁
  ihave HO := (owes_close m ρ c) $$ HO
  ihave Hx := (Entails.of_eq (own_stg c cc0_stg0_0 _)) $$ Hx
  ihave Hk := (Entails.of_eq (own_stg c cc0_stg1_0 _)) $$ Hk
  ihave Hw := (Entails.of_eq (own_stg c cc0_stg2_0 _)) $$ Hw
  ihave Hout := (Entails.of_eq (own_stg c cc0_stg3_0 _)) $$ Hout
  iframe HS HC HO Hx Hk Hw Hout

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_run m ρ c

/-! ## The launch -/

/-- The kernel's own semaphores: the four arrays' entries. -/
abbrev osem (p : Fin 4 × Dev nD) : SemLoc sig := csem (some p)
theorem ownSemFacts : Pipeline.OwnSemFacts cfg0.spec osem := by decide

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf runCells runToks)

/-- What device `c` is dealt of the minted cells and tokens. -/
def G (c : Dev nD) : sProp 𝕄 :=
  iprop((bigSep Finset.univ fun a : CK => roundState ER (sched m ρ) (cell c a) 0)
    ∗ (bigSep Finset.univ fun a : CK => iprop(atPos ER (cell c a) 0 ∅ 0 ∗ reached ER (cell c a) 0)) ∗ payToks F c)

/-- The shared records but for the levels. -/
def kept (K : Dev nD × CK → ℕ) : sProp 𝕄 :=
  iprop((bigSep Finset.univ fun ca : Dev nD × CK => cellInv ER (sched m ρ) (K ca) (cell ca.1 ca.2))
    ∗ (bigSep Finset.univ fun ca : Dev nD × CK => reached ER (cell ca.1 ca.2) 0))
instance kept_persistent (K : Dev nD × CK → ℕ) : BI.Persistent (kept (F := F) m ρ K) := by unfold kept; infer_instance

/-- What is device `c`'s alone. -/
def held (F : FTy → Type) (c : Dev nD) : sProp (MT nD τ sig Unit (Elt F) ℕ UU ℕ) :=
  iprop((bigSep Finset.univ fun a : CK => atPos ER (cell c a) 0 ∅ 0) ∗ payToks F c)
def G' (c : Dev nD) : sProp 𝕄 := iprop(∃ K, kept m ρ K ∗ held F c)

theorem fund_run : BI.own (ER (initOf runCells runToks)) ⊢ (|==> bigSep Finset.univ (G m ρ) : sProp 𝕄) := by
  have hX (Φ : GSem nD τ sig → sProp 𝕄) : bigSep runCells Φ = bigSep Finset.univ fun c : Dev nD => bigSep Finset.univ fun a : CK => Φ (cell c a) := by
    unfold runCells; rw [bigSep_map, bigSep_univ_prod]; rfl
  iintro HX
  imod (Rounds.fund ER (sched m ρ) runCells runToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq (toks_sorted (F := F))) $$ Htok
  unfold G; simp only [bigSep_sep']
  iframe Hst Hat Hr Htok

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = iprop((bigSep Finset.univ fun j => clr F 0 c j) ∗ (bigSep Finset.univ fun j => clr F 1 c j)
      ∗ (bigSep Finset.univ fun j => clr F 2 c j) ∗ (bigSep Finset.univ fun j => clr F 3 c j)) := by
  unfold Pipeline.ownSems0
  rw [bigSep_univ_prod, bigSep_univ_eq_bigSepL [0, 1, 2, 3] (by decide) (by decide)]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun a : CK => semVal (cell c a) 0 : sProp 𝕄) := by
  rw [ownSems0_eq, unscopedSems0_eq, by_cell]
  iintro ⟨⟨H0, H1, H2, H3⟩, HB⟩
  isplitl [HB]; · iexact HB
  isplitl [H0]; · iexact H0
  isplitl [H1]; · iexact H1
  isplitl [H2]; · iexact H2
  iexact H3

/-- One device's invariants. -/
theorem alloc_one (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun a : CK => iprop(∃ κ : ℕ, cellInv ER (sched m ρ) κ (cell c a)))
          ∗ (bigSep Finset.univ fun a : CK => reached ER (cell c a) 0) ∗ held F c) := by
  have hv : iprop((bigSep Finset.univ fun a : CK => semVal (cell c a) 0) ∗ bigSep Finset.univ fun a : CK => roundState ER (sched m ρ) (cell c a) 0)
      ⊢ (|={Set.univ}=> bigSep Finset.univ fun a : CK => iprop(∃ κ : ℕ, cellInv ER (sched m ρ) κ (cell c a)) : sProp 𝕄) := by
    rw [← bigSep_sep']
    exact (bigSep_mono fun a _ => (Rounds.body_intro ER (sched m ρ) (cell c a)).trans inv_alloc).trans (bigSep_fupd _ _)
  unfold G held
  rw [bigSep_sep']
  iintro ⟨Hos, Hus, Hst, ⟨Hat, Hr⟩, Htok⟩
  ihave Hv := (sems0_eq (F := F) c) $$ [Hos Hus]
  · iframe Hos Hus
  imod hv $$ [Hv Hst] with Hinv
  · iframe Hv Hst
  imodintro
  iframe Hinv Hr Hat Htok

theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem keep (K : Dev nD × CK → ℕ) (c : Dev nD) : iprop(kept m ρ K ∗ held F c) ⊢ G' m ρ c := by
  unfold G'
  iintro H
  iexists K; iexact H

theorem share_out :
    (bigSep Finset.univ fun c : Dev nD => iprop((bigSep Finset.univ fun a : CK => iprop(∃ κ : ℕ, cellInv ER (sched m ρ) κ (cell c a)))
          ∗ (bigSep Finset.univ fun a : CK => reached ER (cell c a) 0) ∗ held F c) : sProp 𝕄)
      ⊢ bigSep Finset.univ (G' m ρ) := by
  rw [bigSep_sep', bigSep_sep', ← bigSep_univ_prod (fun ca : Dev nD × CK => iprop(∃ κ : ℕ, cellInv ER (sched m ρ) κ (cell ca.1 ca.2))),
    ← bigSep_univ_prod (fun ca : Dev nD × CK => (reached ER (cell ca.1 ca.2) 0 : sProp 𝕄))]
  iintro ⟨HI, #HR, Hh⟩
  ihave HK := (BI.bigSep_exists_pi Finset.univ (fun (ca : Dev nD × CK) (κ : ℕ) => (cellInv ER (sched m ρ) κ (cell ca.1 ca.2) : sProp 𝕄))) $$ HI
  icases HK with ⟨%K, #HI⟩
  iapply (with_shared (R := kept m ρ K) fun c _ => keep m ρ K c)
  isplitr
  · unfold kept
    isplitl; · iexact HI
    iexact HR
  iexact Hh

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc_one m ρ c).trans (bigSep_fupd _ _)).trans (BI.fupd_mono (share_out m ρ))

/-! ## The sides of the region -/

theorem drop_if (p : Prop) [Decidable p] (X : sProp 𝕄) : X ⊢ if p then iprop(emp) else X := by
  by_cases h : p
  · rw [if_pos h]; iintro -; iempintro
  · rw [if_neg h]

/-- A token for every other device, the own one left aside. -/
theorem others (c : Dev nD) (Φ : Dev nD → sProp 𝕄) : bigSep Finset.univ Φ ⊢ bigSep Finset.univ fun j => if j = c then iprop(emp) else Φ j :=
  bigSep_mono fun j _ => drop_if (j = c) (Φ j)

theorem pair (c : Dev nD) (q q' : Fin 4) :
    iprop((bigSep Finset.univ fun j => dutyTok ER (dCell q c j) 0 j) ∗ (bigSep Finset.univ fun j => dutyTok ER (dCell q' j c) 0 c))
      ⊢ (bigSep Finset.univ fun j => if j = c then iprop(emp) else iprop(dutyTok ER (dCell q c j) 0 j ∗ dutyTok ER (dCell q' j c) 0 c) : sProp 𝕄) := by
  rw [← bigSep_sep']
  exact others c _

theorem waits_of (c : Dev nD) (q : Fin 4) :
    iprop((bigSep Finset.univ fun j => atPos ER (cell c (some (q, j))) 0 ∅ 0) ∗ (bigSep Finset.univ fun j => if j = c then iprop(emp) else cred (tallyAt (dCell q c j) () N)))
      ⊢ (bigSep Finset.univ fun j => Wt F q c j : sProp 𝕄) := by
  rw [← bigSep_sep']
  exact BI.Entails.refl _

theorem fuel (c : Dev nD) : iprop(held F c ∗ Pipeline.launchCred O₀ c) ⊢ (Fuel F c : sProp 𝕄) := by
  unfold held payToks Fuel
  rw [by_cell]
  iintro ⟨⟨⟨HA, A0, A1, A2, A3⟩, TB, T0, T1, T2, T3⟩, HC⟩
  ihave ⟨CB, C1, C3⟩ := (creds (F := F) c) $$ HC
  ihave TB := (others (F := F) c _) $$ TB
  ihave T01 := (pair (F := F) c 0 1) $$ [T0 T1]
  · iframe T0 T1
  ihave T23 := (pair (F := F) c 2 3) $$ [T2 T3]
  · iframe T2 T3
  ihave W1 := (waits_of (F := F) c 1) $$ [A1 C1]
  · iframe A1 C1
  ihave W3 := (waits_of (F := F) c 3) $$ [A3 C3]
  · iframe A3 C3
  isplitl [HA]; · iexact HA
  iframe CB TB T01 T23 W1 W3
  isplitl [A0]; · iexact A0
  iexact A2

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' kept start recs
  iintro ⟨-, #Hlev, Hcr, -, ⟨%K, ⟨#HI, #HR⟩, Hh⟩⟩
  ihave HF := (fuel (F := F) c) $$ [Hh Hcr]
  · iframe Hh Hcr
  imodintro
  isplitl
  · iexists K
    isplitr
    · isplitr; · iexact HI
      isplitr; · iexact HR
      iexact Hlev
    iexact HF
  · iempintro

theorem any_whole (c : Dev nD) (b : Ref sig .tc) :
    (iprop(∃ f : Buf (Elt F) ((c : Thread nD τ).loc b), ((c : Thread nD τ).loc b) ↦{fullShare} f) : sProp 𝕄)
      = iprop(∃ X : b.ty.Contents (Elt F), owns (Ix := Unit) (Name := ℕ) (U := UU) (Lvl := ℕ) (c : Thread nD τ) (Memref.whole b) fullShare X) := by
  congr 1
  exact funext fun f => (owns_whole (c : Thread nD τ) b fullShare f).symm

theorem scratch_eq (c : Dev nD) : (Pipeline.scopedRest (Ix := Unit) (Name := ℕ) (U := UU) (Lvl := ℕ) (Val := Elt F) cfg0.spec c : sProp 𝕄) = Scratch F c := by
  rw [scopedRest0_eq, any_whole, any_whole, any_whole, any_whole, any_whole]
  rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  iframe Hs Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ F c from rfl, scratch_eq, ownSems0_eq, unscopedSems0_eq]
  unfold Φ₁ Cleared
  iintro ⟨Hr, HB, H0, H1, H2, H3⟩
  iframe HB H0 H1 H2 H3 Hr

theorem stage_level (w : Fin 4) (s : Fin (cfg0.win w).nbuf) : lvOf (kind (.dma ((cfg0.win w).sem s))) ≤ 0 := by
  fin_cases w <;> fin_cases s <;> decide

theorem above_O₀ (c : Dev nD) : Above 0 (O₀ c) :=
  (((above_owedD3 c 0).mono (Nat.zero_le _)).add ((above_owedD1 c 0).mono (Nat.zero_le _))).add (above_owedB c 1)

theorem waits (c : Dev nD) : (levAts L lv : sProp 𝕄) ⊢ Pipeline.cellsWaits cfgs (dats m ρ) () 0 c :=
  Pipeline.cellsWaits_intro cfgs (dats m ρ) () 0 c fun w s t =>
    mayWait c _ 0 (stage_level w s) (by
      rcases t with ⟨_ | _, ht⟩
      · exact above_O₀ c
      · exact above_zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_run m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem kept_arg (c : Dev nD) (w : Fin 4) (hw : (cfg0.win w).isOut = false) :
    finalA m ρ c w = (s₀ m ρ).mem ((cfg0.win w).arr.view.loc (c : Thread nD τ)) :=
  (dats (F := F) m ρ 0 c).arrAt_in w hw _

end Cert.KernelIdealRun

end
-- ==== Proof.KernelIdealRun.Result.lean ====
/-
  What the run says of the arrays: the three arguments end unchanged, and the result array ends holding the
  staging buffer that the body left (`outF`), since the one grid point writes the whole array back.
-/
module

public import proofs.«01_k».proof.Proof.KernelIdealRun.Run
public import Idealize.ShloMosaic.Lib.Pipeline.ValueKit

@[expose] public section

noncomputable section

namespace Cert.KernelIdealRun

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The one grid point's block of every argument starts at the array's origin. -/
theorem index_zero : win0_0.index (0 : Fin 1) = ![0, 0, 0] ∧ win0_1.index (0 : Fin 1) = ![0, 0] ∧ win0_2.index (0 : Fin 1) = ![0, 0] := by
  decide +kernel

/-- The block of the first argument that the body reads is the whole array. -/
theorem xF_eq (c : Dev nD) : xF m ρ c = m ((c : Thread nD τ).loc main_arg0) := by
  unfold xF; blk_ext! [index_zero]
/-- So is the second's. -/
theorem kF_eq (c : Dev nD) : kF m ρ c = m ((c : Thread nD τ).loc main_arg1) := by
  unfold kF; blk_ext! [index_zero]
/-- And the third's. -/
theorem wF_eq (c : Dev nD) : wF m ρ c = m ((c : Thread nD τ).loc main_arg2) := by
  unfold wF; blk_ext! [index_zero]

/-- The result array after the run. -/
theorem final_out (c : Dev nD) : finalA m ρ c 3 = outF m ρ c := by
  unfold finalA
  refine (dats m ρ 0 c).arrAt_eq_of_after_last 3 t0_0 (by decide +kernel) _ fun j => ?_
  rfl

/-- The whole run: every device's result is its `outF`, the arguments are what they were, every counter is zero. -/
theorem run_result : θ_run defs (onTc (τ := τ) (main (F := F))) (s₀ m ρ) (fun r =>
    (∀ c : Dev nD, r.2.mem ((c : Thread nD τ).loc main_v1) = outF m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun _ h => ⟨fun c => ⟨(h.1 c 3).trans (final_out m ρ c), (h.1 c 0).trans (kept_arg m ρ c 0 rfl),
      (h.1 c 1).trans (kept_arg m ρ c 1 rfl), (h.1 c 2).trans (kept_arg m ρ c 2 rfl)⟩, h.2⟩)
    (run_main m ρ)

end Cert.KernelIdealRun

end
-- ==== Proof.Value.Formula.lean ====
/-
  The mathematics of the claim, channel by channel, over the extended reals: a causal convolution along the sequence
  with four taps, `silu` of it, and a projection that sums over the channels. Each program's term is read at an index
  here and put in this form.
-/
module

public import proofs.«01_k».proof.Proof.KernelIdealRun.Cells
public import proofs.«01_k».proof.Proof.Gen.ReferenceIdeal.Run
public import Idealize.ShloMosaic.Lib.Pointwise
public import Idealize.ShloMosaic.Lib.Pointwise.IndexBridge

@[expose] public section

set_option maxRecDepth 16384

noncomputable section

namespace Cert.Value

open Cert.KernelIdeal Cert.KernelIdeal.Gen
open Idealize.ShloMosaic
open Idealize.ShloMosaic.TcCoe
open Idealize.SL.Sem

/-- The row `d` steps back from `t`, zero before the sequence's start. -/
def back (x : Fin 512 → EReal) (d : ℕ) (t : Fin 512) : EReal :=
  if t.val < d then 0 else x ⟨t.val - d, Nat.lt_of_le_of_lt (Nat.sub_le _ _) t.isLt⟩

/-- One channel of the causal convolution: tap `i` meets the row `3 - i` steps back. -/
def conv (x : Fin 512 → EReal) (k : Fin 4 → EReal) (t : Fin 512) : EReal :=
  back x 3 t * k 0 + back x 2 t * k 1 + back x 1 t * k 2 + x t * k 3

/-- `v · 1 / (1 + e⁻ᵛ)`. -/
def silu (v : EReal) : EReal := v * Ideal.logistic v

/-- `silu` as the quotient that the reference writes. -/
theorem silu_eq (v : EReal) : Ideal.div v (1 + Ideal.exp (-v)) = silu v := by
  have h : (1 + Ideal.exp (-v) : EReal) ≠ 0 := by
    induction v using EReal.rec with
    | bot => rw [EReal.neg_bot, Ideal.exp_top, EReal.add_top_of_ne_bot (show (1 : EReal) ≠ ⊥ from EReal.coe_ne_bot 1)]; exact EReal.top_ne_zero
    | top => simp
    | coe r =>
      rw [← EReal.coe_neg]
      show ((1 : ℝ) : EReal) + ((Real.exp (-r) : ℝ) : EReal) ≠ 0
      rw [← EReal.coe_add]
      exact EReal.coe_ne_zero.mpr (by positivity)
  unfold silu Ideal.logistic Ideal.div
  rw [if_neg h, if_neg h, one_mul]

/-- What the kernel applies its projection to, at row `r` of a device's flattened activations. -/
theorem act_at (x : Vec Ideal S4x512x256 .bf16) (k : Vec Ideal S4x256 .bf16) (r : Fin 2048) (h : Fin 256) :
    k0_pay6 (k0_pay3 x k) (k0_pay4 x) (k0_pay5 k) (ix2 r h)
      = silu (conv (fun s => x (ix3 ⟨r.val / 512, by have := r.isLt; omega⟩ s h)) (fun i => k (ix2 i h)) ⟨r.val % 512, Nat.mod_lt _ (by decide)⟩) := by
  have e (a b c d : EReal) : d + a + b + c = a + b + c + d := by ac_rfl
  pointwise [k0_pay6, k0_pay3, k0_pay4, k0_pay5, k0_pay1, k0_pay2]
  rw [e]
  rfl

/-- The result at batch `b`, position `t` and output channel `o`: the sum over the 2048 channels. -/
def result (X : FVec Ideal Cert.ReferenceIdeal.S4x512x2048 .bf16) (K : FVec Ideal Cert.ReferenceIdeal.S4x2048 .bf16)
    (W : FVec Ideal Cert.ReferenceIdeal.S2048x256 .bf16) (b : Fin 4) (t : Fin 512) (o : Fin 256) : EReal :=
  ∑ h : Fin 2048, silu (conv (fun s => X (ix3 b s h)) (fun i => K (ix2 i h)) t) * W (ix2 h o)

/-- The reference's result at an index. -/
theorem ref_at (m : (ℓ : Loc Cert.ReferenceIdeal.nD Cert.ReferenceIdeal.τ Cert.ReferenceIdeal.sig) → Buf (Elt Ideal) ℓ)
    (X : FVec Ideal Cert.ReferenceIdeal.S4x512x2048 .bf16) (K : FVec Ideal Cert.ReferenceIdeal.S4x2048 .bf16) (W : FVec Ideal Cert.ReferenceIdeal.S2048x256 .bf16)
    (hX : m (((0 : Dev Cert.ReferenceIdeal.nD).tc : Thread Cert.ReferenceIdeal.nD Cert.ReferenceIdeal.τ).loc Cert.ReferenceIdeal.main_arg0) = X)
    (hK : m (((0 : Dev Cert.ReferenceIdeal.nD).tc : Thread Cert.ReferenceIdeal.nD Cert.ReferenceIdeal.τ).loc Cert.ReferenceIdeal.main_arg1) = K)
    (hW : m (((0 : Dev Cert.ReferenceIdeal.nD).tc : Thread Cert.ReferenceIdeal.nD Cert.ReferenceIdeal.τ).loc Cert.ReferenceIdeal.main_arg2) = W)
    (b : Fin 4) (t : Fin 512) (o : Fin 256) :
    (Cert.ReferenceIdeal.Value.res_out0 m 0 : FVec Ideal S4x512x256 .f32) (ix3 b t o)
      = result X K W b t o := by
  pointwise [Cert.ReferenceIdeal.Value.res_out0, Cert.ReferenceIdeal.Value.res_main_v39]
  rw [hX, hK, hW]
  refine Finset.sum_congr (M := EReal) rfl fun h _ => ?_
  rw [silu_eq]
  refine congrArg (fun v => silu v * W (ix2 h o)) ?_
  have s1 : (1 + t.val < 3) = (t.val < 2) := by apply propext; omega
  have s2 : (2 + t.val < 3) = (t.val < 1) := by apply propext; omega
  have d1 : 1 + t.val - 3 = t.val - 2 := by omega
  have d2 : 2 + t.val - 3 = t.val - 1 := by omega
  simp only [s1, s2, d1, d2]
  rfl

end Cert.Value

end
-- ==== Proof.Value.Sums.lean ====
/-
  What each device's result holds at an index, over the extended reals: the sum over the devices of their partial
  projections, whichever device computed the block and whether it arrived in f32 or in bf16.
-/
module

public import proofs.«01_k».proof.Proof.KernelIdealRun.Result
public import proofs.«01_k».proof.Proof.Value.Formula

@[expose] public section

set_option maxRecDepth 16384

noncomputable section

namespace Cert.Value

open Cert.KernelIdeal Cert.KernelIdeal.Gen Cert.KernelIdealRun
open Idealize.ShloMosaic
open Idealize.ShloMosaic.TcCoe
open Idealize.SL.Sem

variable (m : (ℓ : Loc nD τ sig) → Buf (Elt Ideal) ℓ) (ρ : Dev nD → PrngReg)

/-- Block `j` of device `c`'s partial projection: rows `256 j …` of its activations against its rows of the weight. -/
theorem part_at (c j : Dev nD) (a o : Fin 256) :
    partV m ρ c j (ix2 a o)
      = (∑ h : Fin 256, (actF m ρ c (ix2 ⟨j.val * 256 + a.val, by have : j.val < 8 := j.isLt; have := a.isLt; omega⟩ h) : EReal) * wF m ρ c (ix2 h o) : EReal) := by
  have e : partV m ρ c j (ix2 a o) = partB m ρ c j (ix3 0 a o) := by pointwise [partV]
  rw [e]
  fin_cases j <;>
    pointwise [partB, actF, prjF, k0_pay7, k0_pay8, k0_pay10, k0_pay12, k0_pay13, k0_pay15, k0_pay17, k0_pay19, k0_pay21, k0_pay23, k0_pay24]

/-- The reduced block of device `j`: the sum of its blocks of all partial projections. -/
theorem red_at (j : Dev nD) (a o : Fin 256) : redF m ρ j (ix2 a o) = (∑ c : Dev nD, (partV m ρ c j (ix2 a o) : EReal) : EReal) := by
  unfold redF
  pointwise [k0_pay26]
  rfl

/-- Block `j` of the result on any device is device `j`'s reduced block. -/
theorem out_at (c j : Dev nD) (a o : Fin 256) : outB m ρ c j (ix3 0 a o) = redF m ρ j (ix2 a o) := by
  unfold outB srcF
  split
  · rename_i h; subst h; pointwise [k0_pay29]
  · pointwise [k0_pay28, k0_pay27]

end Cert.Value

end
-- ==== Proof.Value.Equal.lean ====
/-
  The result that every device ends with is the reference's: a channel of the whole arrays is one device's channel, so
  the devices' sums over their 256 channels add up to the reference's sum over all 2048.
-/
module

public import proofs.«01_k».proof.Proof.Value.Sums
public import Idealize.ShloMosaic.Lib.LayoutAt

@[expose] public section

set_option maxRecDepth 16384

noncomputable section

namespace Cert.Value

open Cert.KernelIdeal Cert.KernelIdeal.Gen Cert.KernelIdealRun
open Idealize.ShloMosaic
open Idealize.ShloMosaic.TcCoe
open Idealize.SL.Sem

variable (m : (ℓ : Loc nD τ sig) → Buf (Elt Ideal) ℓ) (ρ : Dev nD → PrngReg)

variable (X : FVec Ideal Cert.ReferenceIdeal.S4x512x2048 .bf16) (K : FVec Ideal Cert.ReferenceIdeal.S4x2048 .bf16) (W : FVec Ideal Cert.ReferenceIdeal.S2048x256 .bf16)

/-- Channel `h` of device `c`, among all the channels. -/
def chan (c : Dev nD) (h : Fin 256) : Fin 2048 := ⟨c.val * 256 + h.val, by have : c.val < 8 := c.isLt; have := h.isLt; omega⟩

/-- The devices' sums add up to the sum over all channels. -/
theorem sum_chan (f : Fin 2048 → EReal) : ∑ h, f h = ∑ c : Dev nD, ∑ h : Fin 256, f (chan c h) :=
  Fin.sum_univ_tiles 8 256 rfl f

/-- The three arguments are cut into eight equal blocks each: along the channels of `x` and `k`, and the rows of `Wp`. -/
theorem tiles_x : Layout.Tiles ⟨3, ![4, 512, 256]⟩ ⟨3, ![4, 512, 2048]⟩ 2 8 := by decide
theorem tiles_k : Layout.Tiles ⟨2, ![4, 256]⟩ ⟨2, ![4, 2048]⟩ 1 8 := by decide
theorem tiles_w : Layout.Tiles ⟨2, ![256, 256]⟩ ⟨2, ![2048, 256]⟩ 0 8 := by decide

section Blocks

variable (hx : ∀ c : Dev nD, m ((c : Thread nD τ).loc main_arg0) = Layout.block ⟨3, ![4, 512, 256]⟩ ⟨3, ![4, 512, 2048]⟩ 2 8 c X tiles_x)
  (hk : ∀ c : Dev nD, m ((c : Thread nD τ).loc main_arg1) = Layout.block ⟨2, ![4, 256]⟩ ⟨2, ![4, 2048]⟩ 1 8 c K tiles_k)
  (hw : ∀ c : Dev nD, m ((c : Thread nD τ).loc main_arg2) = Layout.block ⟨2, ![256, 256]⟩ ⟨2, ![2048, 256]⟩ 0 8 c W tiles_w)

include hx in
theorem x_at (c : Dev nD) (b : Fin 4) (s : Fin 512) (h : Fin 256) : xF m ρ c (ix3 b s h) = X (ix3 b s (chan c h)) := by
  rw [xF_eq, hx]
  unfold chan
  shard_ext
include hk in
theorem k_at (c : Dev nD) (i : Fin 4) (h : Fin 256) : kF m ρ c (ix2 i h) = K (ix2 i (chan c h)) := by
  rw [kF_eq, hk]
  unfold chan
  shard_ext
include hw in
theorem w_at (c : Dev nD) (h o : Fin 256) : wF m ρ c (ix2 h o) = W (ix2 (chan c h) o) := by
  rw [wF_eq, hw]
  unfold chan
  shard_ext

include hx hk hw in
/-- Every device's result, at batch `b`, position `t` and output channel `o`. -/
theorem out_eq (c : Dev nD) (b : Fin 4) (t : Fin 512) (o : Fin 256) : outF m ρ c (ix3 b t o) = result X K W b t o := by
  show outB m ρ c (blkOf b t) (ValueIdx.ix3 (0 : Fin 1) (rowOf t) o) = _
  rw [← ix3_eq_valueIdx, out_at, red_at]
  unfold result
  rw [sum_chan]
  refine Finset.sum_congr (M := EReal) rfl fun d _ => ?_
  rw [part_at]
  refine Finset.sum_congr (M := EReal) rfl fun h _ => ?_
  unfold actF
  rw [act_at, w_at m ρ W hw]
  have hrow : (blkOf b t).val * 256 + (rowOf t).val = b.val * 512 + t.val := by
    unfold blkOf rowOf
    show (2 * b.val + t.val / 256) * 256 + t.val % 256 = _
    omega
  have := t.isLt
  have hb : (⟨((blkOf b t).val * 256 + (rowOf t).val) / 512, by have := b.isLt; omega⟩ : Fin 4) = b := Fin.ext (by show _ / _ = _; omega)
  have ht : (⟨((blkOf b t).val * 256 + (rowOf t).val) % 512, Nat.mod_lt _ (by decide)⟩ : Fin 512) = t := Fin.ext (by show _ % _ = _; omega)
  simp only [hb, ht, x_at m ρ X hx, k_at m ρ K hk]

end Blocks

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun.Result
public import proofs.«01_k».proof.Proof.KernelIdealRun.Result
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- The kernel, at the bit patterns: it runs, its arguments end unchanged, every counter is back at zero. -/
theorem frame_kernel : Cert.quiescent_Kernel := fun m g _ =>
  (θ_run Cert.Kernel.defs _ _).mono (fun _ h => ⟨fun c => (h.1 c).2, h.2⟩) (Cert.KernelRun.run_result (F := Bits) m g)

/-- The same of the kernel over the extended reals. -/
theorem frame_kernelIdeal : Cert.quiescent_KernelIdeal := fun m g _ =>
  (θ_run Cert.KernelIdeal.defs _ _).mono (fun _ h => ⟨fun c => (h.1 c).2, h.2⟩) (Cert.KernelIdealRun.run_result (F := Ideal) m g)

/-- The reference is host operations alone: its run, read at the arguments; it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Both programs end with the reference's composed term: on every device of the kernel, by `Cert.Value.out_eq` and
    `Cert.Value.ref_at` at each index. -/
theorem algebraic : Cert.algebraic_KernelIdeal_ReferenceIdeal := by
  intro m g m' g' _ hagree
  refine ⟨Cert.ReferenceIdeal.Value.res_out0 m' 0, ?_, ?_⟩
  · refine (θ_run Cert.KernelIdeal.defs _ _).mono (fun _ h c => ⟨(h.1 c).1.trans ?_, (h.1 c).2⟩)
      (Cert.KernelIdealRun.run_result (F := Ideal) m g)
    funext i
    obtain ⟨b, t, o, rfl⟩ : ∃ (b : Fin 4) (t : Fin 512) (o : Fin 256), i = ix3 b t o := ⟨i 0, i 1, i 2, eq_ix3 i⟩
    exact (Cert.Value.out_eq m g _ _ _ (fun c => (hagree c).1) (fun c => (hagree c).2.1) (fun c => (hagree c).2.2) c b t o).trans
      (Cert.Value.ref_at m' _ _ _ rfl rfl rfl b t o).symm
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
